-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_order_and_finite [hPre_in_order_and_finite : Cert.Pre_in_order_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_in_order_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_order_and_finite [hPre_in_order_and_finite : Cert.Pre_in_order_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_in_order_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_order_and_finite [hKernelIdeal : Cert.KernelIdeal.Facts] [hPre_in_order_and_finite : Cert.Pre_in_order_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_order_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_order_and_finite [hReferenceIdeal : Cert.ReferenceIdeal.Facts] [hPre_in_order_and_finite : Cert.Pre_in_order_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_order_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_order_and_finite [hKernelIdeal : Cert.KernelIdeal.Facts] [hReferenceIdeal : Cert.ReferenceIdeal.Facts] [hPre_in_order_and_finite : Cert.Pre_in_order_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_order_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_order_and_finite : Cert.Pre_in_order_and_finite.Facts),
    quiescent_Kernel (hKernel := hKernel)
    ∧ quiescent_KernelIdeal (hKernelIdeal := hKernelIdeal)
    ∧ quiescent_KernelIdeal_pre_in_order_and_finite (hKernelIdeal := hKernelIdeal) (hPre_in_order_and_finite := hPre_in_order_and_finite)
    ∧ quiescent_ReferenceIdeal (hReferenceIdeal := hReferenceIdeal)
    ∧ quiescent_ReferenceIdeal_pre_in_order_and_finite (hReferenceIdeal := hReferenceIdeal) (hPre_in_order_and_finite := hPre_in_order_and_finite)
    ∧ preserves_Kernel_KernelIdeal
    ∧ algebraic_KernelIdeal_ReferenceIdeal_pre_in_order_and_finite (hKernelIdeal := hKernelIdeal) (hReferenceIdeal := hReferenceIdeal) (hPre_in_order_and_finite := hPre_in_order_and_finite)
-- ==== Pre_in_order_and_finite.lean ====
abbrev S64x2048x256 : Shape := ⟨3, ![64, 2048, 256]⟩
abbrev S64x256 : Shape := ⟨2, ![64, 256]⟩
abbrev S64 : Shape := ⟨1, ![64]⟩
abbrev S8x32x16 : Shape := ⟨3, ![8, 32, 16]⟩
abbrev S8x16 : Shape := ⟨2, ![8, 16]⟩
abbrev S128x256 : Shape := ⟨2, ![128, 256]⟩
abbrev S256 : Shape := ⟨1, ![256]⟩
abbrev S256x160 : Shape := ⟨2, ![256, 160]⟩
abbrev S160 : Shape := ⟨1, ![160]⟩
abbrev S1x256 : Shape := ⟨2, ![1, 256]⟩
abbrev S_ : Shape := ⟨0, ![]⟩

class Facts : Prop where
  slices_S64x256_S1x256_0_0 : S64x256.Slices ![0, 0] S1x256
  shapeCasts_S1x256_S256 : S1x256.ShapeCasts S256
  bcast_S_S256 : S_.BroadcastsInDim S256 (![] : Fin 0 → Fin S256.rank)
  reducesTo_S256_S_d0 : S256.ReducesTo [0] S_
  h_S_ : 0 < S_.numel
  bcast_S_S64x2048x256 : S_.BroadcastsInDim S64x2048x256 (![] : Fin 0 → Fin S64x2048x256.rank)
  reducesTo_S64x2048x256_S_d0_1_2 : S64x2048x256.ReducesTo [0, 1, 2] S_
  bcast_S_S8x32x16 : S_.BroadcastsInDim S8x32x16 (![] : Fin 0 → Fin S8x32x16.rank)
  reducesTo_S8x32x16_S_d0_1_2 : S8x32x16.ReducesTo [0, 1, 2] S_
  bcast_S_S8x16 : S_.BroadcastsInDim S8x16 (![] : Fin 0 → Fin S8x16.rank)
  reducesTo_S8x16_S_d0_1 : S8x16.ReducesTo [0, 1] S_
  bcast_S_S128x256 : S_.BroadcastsInDim S128x256 (![] : Fin 0 → Fin S128x256.rank)
  reducesTo_S128x256_S_d0_1 : S128x256.ReducesTo [0, 1] S_
  bcast_S_S256x160 : S_.BroadcastsInDim S256x160 (![] : Fin 0 → Fin S256x160.rank)
  reducesTo_S256x160_S_d0_1 : S256x160.ReducesTo [0, 1] S_

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn_part1 {F : FTy → Type} [FloatOps F] (main_arg5 : FVec F S128x256 .f32) (main_arg7 : FVec F S256x160 .f32) (main_v5 : IVec S_ 1) (main_v9 : IVec S_ 1) (main_v13 : IVec S_ 1) (main_v16 : IVec S8x16 1) : IVec S_ 1 × IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : FVec F S128x256 .f32 := Host.absf main_arg5
  let main_cst_6 : FVec F S_ .f32 := constant S_ .f32 0x7F800000#32
  let main_v19 : FVec F S128x256 .f32 := broadcastInDim S128x256 ![] bcast_S_S128x256 main_cst_6
  let main_v20 : IVec S128x256 1 := cmpf .olt main_v18 main_v19
  let main_c_7 : IVec S_ 1 := constantI S_ 1 1#1
  let main_v21 : IVec S_ 1 := (fun x v => Host.reduce IntOp.andi x v reducesTo_S128x256_S_d0_1 h_S_) main_v20 main_c_7
  let main_v22 : FVec F S256x160 .f32 := Host.absf main_arg7
  let main_cst_8 : FVec F S_ .f32 := constant S_ .f32 0x7F800000#32
  let main_v23 : FVec F S256x160 .f32 := broadcastInDim S256x160 ![] bcast_S_S256x160 main_cst_8
  let main_v24 : IVec S256x160 1 := cmpf .olt main_v22 main_v23
  let main_c_9 : IVec S_ 1 := constantI S_ 1 1#1
  let main_v25 : IVec S_ 1 := (fun x v => Host.reduce IntOp.andi x v reducesTo_S256x160_S_d0_1 h_S_) main_v24 main_c_9
  (main_v5, main_v9, main_v13, main_v17, main_v21, main_v25)

def fn {F : FTy → Type} [FloatOps F] (main_arg0 : FVec F S64x2048x256 .f32) (main_arg1 : IVec S64x256 32) (main_arg2 : IVec S64 32) (main_arg3 : FVec F S8x32x16 .f32) (main_arg4 : FVec F S8x16 .f32) (main_arg5 : FVec F S128x256 .f32) (main_arg6 : FVec F S256 .f32) (main_arg7 : FVec F S256x160 .f32) (main_arg8 : FVec F S160 .f32) : IVec S_ 1 × IVec S_ 1 × IVec S_ 1 × IVec S_ 1 × IVec S_ 1 × IVec S_ 1 :=
  let main_v0 : IVec S1x256 32 := (extractStridedSlice S1x256 ![0, 0] · slices_S64x256_S1x256_0_0) main_arg1
  let main_v1 : IVec S256 32 := shapeCast S256 main_v0 shapeCasts_S1x256_S256
  let main_v2 : IVec S256 32 := iotaInDim S256 32 0
  let main_c : IVec S_ 32 := constantI S_ 32 32#32
  let main_v3 : IVec S256 32 := fn_floor_divide (F := F) main_v2 main_c
  let main_v4 : IVec S256 1 := cmpi .eq main_v1 main_v3
  let main_c_0 : IVec S_ 1 := constantI S_ 1 1#1
  let main_v5 : IVec S_ 1 := (fun x v => Host.reduce IntOp.andi x v reducesTo_S256_S_d0 h_S_) main_v4 main_c_0
  let main_v6 : FVec F S64x2048x256 .f32 := Host.absf main_arg0
  let main_cst : FVec F S_ .f32 := constant S_ .f32 0x7F800000#32
  let main_v7 : FVec F S64x2048x256 .f32 := broadcastInDim S64x2048x256 ![] bcast_S_S64x2048x256 main_cst
  let main_v8 : IVec S64x2048x256 1 := cmpf .olt main_v6 main_v7
  let main_c_1 : IVec S_ 1 := constantI S_ 1 1#1
  let main_v9 : IVec S_ 1 := (fun x v => Host.reduce IntOp.andi x v reducesTo_S64x2048x256_S_d0_1_2 h_S_) main_v8 main_c_1
  let main_v10 : FVec F S8x32x16 .f32 := Host.absf main_arg3
  let main_cst_2 : FVec F S_ .f32 := constant S_ .f32 0x7F800000#32
  let main_v11 : FVec F S8x32x16 .f32 := broadcastInDim S8x32x16 ![] bcast_S_S8x32x16 main_cst_2
  let main_v12 : IVec S8x32x16 1 := cmpf .olt main_v10 main_v11
  let main_c_3 : IVec S_ 1 := constantI S_ 1 1#1
  let main_v13 : IVec S_ 1 := (fun x v => Host.reduce IntOp.andi x v reducesTo_S8x32x16_S_d0_1_2 h_S_) main_v12 main_c_3
  let main_v14 : FVec F S8x16 .f32 := Host.absf main_arg4
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg5 main_arg7 main_v5 main_v9 main_v13 main_v16
-- ==== Kernel.lean ====
abbrev S64x2048x256 : Shape := ⟨3, ![64, 2048, 256]⟩
abbrev S64x256 : Shape := ⟨2, ![64, 256]⟩
abbrev S64 : Shape := ⟨1, ![64]⟩
abbrev S8x32x16 : Shape := ⟨3, ![8, 32, 16]⟩
abbrev S8x16 : Shape := ⟨2, ![8, 16]⟩
abbrev S128x256 : Shape := ⟨2, ![128, 256]⟩
abbrev S256 : Shape := ⟨1, ![256]⟩
abbrev S256x160 : Shape := ⟨2, ![256, 160]⟩
abbrev S160 : Shape := ⟨1, ![160]⟩
abbrev S_ : Shape := ⟨0, ![]⟩
abbrev S1 : Shape := ⟨1, ![1]⟩
abbrev S2 : Shape := ⟨1, ![2]⟩
abbrev S1x1 : Shape := ⟨2, ![1, 1]⟩
abbrev S64x8 : Shape := ⟨2, ![64, 8]⟩
abbrev S64x8x32 : Shape := ⟨3, ![64, 8, 32]⟩
abbrev S1x256 : Shape := ⟨2, ![1, 256]⟩
abbrev S1x160 : Shape := ⟨2, ![1, 160]⟩
abbrev S64x160 : Shape := ⟨2, ![64, 160]⟩
abbrev S128x160 : Shape := ⟨2, ![128, 160]⟩
abbrev S16x160 : Shape := ⟨2, ![16, 160]⟩
abbrev S1x32x16 : Shape := ⟨3, ![1, 32, 16]⟩
abbrev S32x16 : Shape := ⟨2, ![32, 16]⟩
abbrev S32x160 : Shape := ⟨2, ![32, 160]⟩
abbrev S1x16 : Shape := ⟨2, ![1, 16]⟩
abbrev S8x160 : Shape := ⟨2, ![8, 160]⟩
abbrev S64x1x256 : Shape := ⟨3, ![64, 1, 256]⟩
abbrev S64x1x160 : Shape := ⟨3, ![64, 1, 160]⟩
abbrev S64x2048x160 : Shape := ⟨3, ![64, 2048, 160]⟩
abbrev S4x2048x256 : Shape := ⟨3, ![4, 2048, 256]⟩
abbrev S4x1x256 : Shape := ⟨3, ![4, 1, 256]⟩
abbrev S4x1x160 : Shape := ⟨3, ![4, 1, 160]⟩
abbrev S4x2048x160 : Shape := ⟨3, ![4, 2048, 160]⟩
abbrev S1x2048x256 : Shape := ⟨3, ![1, 2048, 256]⟩
abbrev S2048x256 : Shape := ⟨2, ![2048, 256]⟩
abbrev S1x1x256 : Shape := ⟨3, ![1, 1, 256]⟩
abbrev S2048x160 : Shape := ⟨2, ![2048, 160]⟩
abbrev S1x1x160 : Shape := ⟨3, ![1, 1, 160]⟩
abbrev S1x2048x160 : Shape := ⟨3, ![1, 2048, 160]⟩

abbrev nBuf : Space → Nat
  | .hbm => 302
  | .vmem => 18
  | .smem => 0
  | _ => 0

abbrev hbmTy0_0 (i : Nat) : BufTy := match i % 128 with
  | 0 => ⟨S64x2048x256, .f32⟩
  | 1 => ⟨S64x256, .i32⟩
  | 2 => ⟨S64, .i32⟩
  | 3 => ⟨S8x32x16, .f32⟩
  | 4 => ⟨S8x16, .f32⟩
  | 5 => ⟨S128x256, .f32⟩
  | 6 => ⟨S256, .f32⟩
  | 7 => ⟨S256x160, .f32⟩
  | 8 => ⟨S160, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S_, .f32⟩
  | 20 => ⟨S_, .f32⟩
  | 21 => ⟨S_, .f32⟩
  | 22 => ⟨S_, .f32⟩
  | 23 => ⟨S1x1, .f32⟩
  | 24 => ⟨S1x1, .f32⟩
  | 25 => ⟨S1, .i32⟩
  | 26 => ⟨S_, .i32⟩
  | 27 => ⟨S1, .i32⟩
  | 28 => ⟨S_, .i32⟩
  | 29 => ⟨S64x8, .i64⟩
  | 30 => ⟨S64x8, .i64⟩
  | 31 => ⟨S_, .i64⟩
  | 32 => ⟨S64x8, .i64⟩
  | 33 => ⟨S64x8, .i64⟩
  | 34 => ⟨S_, .i64⟩
  | 35 => ⟨S64x8, .i64⟩
  | 36 => ⟨S64x8, .i64⟩
  | 37 => ⟨S64x8, .i64⟩
  | 38 => ⟨S_, .i64⟩
  | 39 => ⟨S64x8, .i64⟩
  | 40 => ⟨S64x8, .i64⟩
  | 41 => ⟨S64x8, .i32⟩
  | 42 => ⟨S64x8, .i32⟩
  | 43 => ⟨S_, .i32⟩
  | 44 => ⟨S_, .i32⟩
  | 45 => ⟨S_, .i32⟩
  | 46 => ⟨S64x8, .i32⟩
  | 47 => ⟨S64x8, .i32⟩
  | 48 => ⟨S64x8, .i32⟩
  | 49 => ⟨S64x8, .i32⟩
  | 50 => ⟨S64x8, .i32⟩
  | 51 => ⟨S_, .i32⟩
  | 52 => ⟨S64x8, .i32⟩
  | 53 => ⟨S64x8, .i32⟩
  | 54 => ⟨S_, .i32⟩
  | 55 => ⟨S64x8, .i32⟩
  | 56 => ⟨S64x8, .i32⟩
  | 57 => ⟨S64x8, .i32⟩
  | 58 => ⟨S64x8, .i32⟩
  | 59 => ⟨S64x8, .i32⟩
  | 60 => ⟨S_, .i32⟩
  | 61 => ⟨S64x8, .i32⟩
  | 62 => ⟨S64x8, .i32⟩
  | 63 => ⟨S_, .i32⟩
  | 64 => ⟨S64x8, .i32⟩
  | 65 => ⟨S64x8, .i32⟩
  | 66 => ⟨S64x8, .i32⟩
  | 67 => ⟨S64x8, .i32⟩
  | 68 => ⟨S64x8, .i32⟩
  | 69 => ⟨S_, .i32⟩
  | 70 => ⟨S64x8, .i32⟩
  | 71 => ⟨S64x8, .i32⟩
  | 72 => ⟨S_, .i32⟩
  | 73 => ⟨S64x8, .i32⟩
  | 74 => ⟨S64x8, .i32⟩
  | 75 => ⟨S64x8, .i32⟩
  | 76 => ⟨S64x8, .i32⟩
  | 77 => ⟨S64x8, .i32⟩
  | 78 => ⟨S_, .i32⟩
  | 79 => ⟨S64x8, .i32⟩
  | 80 => ⟨S64x8, .i32⟩
  | 81 => ⟨S_, .i32⟩
  | 82 => ⟨S64x8, .i32⟩
  | 83 => ⟨S64x8, .i32⟩
  | 84 => ⟨S64x8, .i32⟩
  | 85 => ⟨S64x8, .i32⟩
  | 86 => ⟨S64x8, .i32⟩
  | 87 => ⟨S64x8, .i32⟩
  | 88 => ⟨S64x8, .i32⟩
  | 89 => ⟨S64x8, .i32⟩
  | 90 => ⟨S_, .i32⟩
  | 91 => ⟨S64x8, .i32⟩
  | 92 => ⟨S64x8, .i32⟩
  | 93 => ⟨S64x8, .i32⟩
  | 94 => ⟨S_, .i32⟩
  | 95 => ⟨S64x8, .i32⟩
  | 96 => ⟨S64x8, .i32⟩
  | 97 => ⟨S_, .i32⟩
  | 98 => ⟨S64x8, .i32⟩
  | 99 => ⟨S64x8, .i32⟩
  | 100 => ⟨S64x8, .i32⟩
  | 101 => ⟨S64x8, .i32⟩
  | 102 => ⟨S64x8, .i32⟩
  | 103 => ⟨S_, .i32⟩
  | 104 => ⟨S64x8, .i32⟩
  | 105 => ⟨S64x8, .i32⟩
  | 106 => ⟨S_, .i32⟩
  | 107 => ⟨S64x8, .i32⟩
  | 108 => ⟨S64x8, .i32⟩
  | 109 => ⟨S64x8, .i32⟩
  | 110 => ⟨S64x8, .i32⟩
  | 111 => ⟨S64x8, .i32⟩
  | 112 => ⟨S_, .i32⟩
  | 113 => ⟨S64x8, .i32⟩
  | 114 => ⟨S64x8, .i32⟩
  | 115 => ⟨S_, .i32⟩
  | 116 => ⟨S64x8, .i32⟩
  | 117 => ⟨S64x8, .i32⟩
  | 118 => ⟨S64x8, .i32⟩
  | 119 => ⟨S64x8, .i32⟩
  | 120 => ⟨S64x8, .i32⟩
  | 121 => ⟨S_, .i32⟩
  | 122 => ⟨S64x8, .i32⟩
  | 123 => ⟨S64x8, .i32⟩
  | 124 => ⟨S_, .i32⟩
  | 125 => ⟨S64x8, .i32⟩
  | 126 => ⟨S64x8, .i32⟩
  | 127 => ⟨S64x8, .i32⟩
  | _ => ⟨S64x2048x256, .f32⟩

abbrev hbmTy0_1 (i : Nat) : BufTy := match i % 128 with
  | 0 => ⟨S64x8, .i32⟩
  | 1 => ⟨S64x8, .i32⟩
  | 2 => ⟨S64x8, .i32⟩
  | 3 => ⟨S64x8, .i32⟩
  | 4 => ⟨S64x8, .i32⟩
  | 5 => ⟨S_, .i32⟩
  | 6 => ⟨S64x8, .i32⟩
  | 7 => ⟨S64x8, .i32⟩
  | 8 => ⟨S64x8, .i32⟩
  | 9 => ⟨S_, .i32⟩
  | 10 => ⟨S64x8, .i32⟩
  | 11 => ⟨S64x8, .i32⟩
  | 12 => ⟨S_, .i32⟩
  | 13 => ⟨S64x8, .i32⟩
  | 14 => ⟨S64x8, .i32⟩
  | 15 => ⟨S64x8, .i32⟩
  | 16 => ⟨S64x8, .i32⟩
  | 17 => ⟨S64x8, .i32⟩
  | 18 => ⟨S_, .i32⟩
  | 19 => ⟨S64x8, .i32⟩
  | 20 => ⟨S64x8, .i32⟩
  | 21 => ⟨S_, .i32⟩
  | 22 => ⟨S64x8, .i32⟩
  | 23 => ⟨S64x8, .i32⟩
  | 24 => ⟨S64x8, .i32⟩
  | 25 => ⟨S64x8, .i32⟩
  | 26 => ⟨S64x8, .i32⟩
  | 27 => ⟨S_, .i32⟩
  | 28 => ⟨S64x8, .i32⟩
  | 29 => ⟨S64x8, .i32⟩
  | 30 => ⟨S_, .i32⟩
  | 31 => ⟨S64x8, .i32⟩
  | 32 => ⟨S64x8, .i32⟩
  | 33 => ⟨S64x8, .i32⟩
  | 34 => ⟨S64x8, .i32⟩
  | 35 => ⟨S64x8, .i32⟩
  | 36 => ⟨S_, .i32⟩
  | 37 => ⟨S64x8, .i32⟩
  | 38 => ⟨S64x8, .i32⟩
  | 39 => ⟨S_, .i32⟩
  | 40 => ⟨S64x8, .i32⟩
  | 41 => ⟨S64x8, .i32⟩
  | 42 => ⟨S64x8, .i32⟩
  | 43 => ⟨S64x8, .i32⟩
  | 44 => ⟨S64x8, .i32⟩
  | 45 => ⟨S64x8, .i32⟩
  | 46 => ⟨S64x8, .i32⟩
  | 47 => ⟨S64x8, .i32⟩
  | 48 => ⟨S_, .i32⟩
  | 49 => ⟨S64x8, .i32⟩
  | 50 => ⟨S64x8, .i32⟩
  | 51 => ⟨S64x8, .i32⟩
  | 52 => ⟨S_, .i32⟩
  | 53 => ⟨S64x8, .i32⟩
  | 54 => ⟨S64x8, .i32⟩
  | 55 => ⟨S_, .i32⟩
  | 56 => ⟨S64x8, .i32⟩
  | 57 => ⟨S64x8, .i32⟩
  | 58 => ⟨S64x8, .i32⟩
  | 59 => ⟨S64x8, .i32⟩
  | 60 => ⟨S64x8, .i32⟩
  | 61 => ⟨S_, .i32⟩
  | 62 => ⟨S64x8, .i32⟩
  | 63 => ⟨S64x8, .i32⟩
  | 64 => ⟨S_, .i32⟩
  | 65 => ⟨S64x8, .i32⟩
  | 66 => ⟨S64x8, .i32⟩
  | 67 => ⟨S64x8, .i32⟩
  | 68 => ⟨S64x8, .i32⟩
  | 69 => ⟨S64x8, .i32⟩
  | 70 => ⟨S_, .i32⟩
  | 71 => ⟨S64x8, .i32⟩
  | 72 => ⟨S64x8, .i32⟩
  | 73 => ⟨S_, .i32⟩
  | 74 => ⟨S64x8, .i32⟩
  | 75 => ⟨S64x8, .i32⟩
  | 76 => ⟨S64x8, .i32⟩
  | 77 => ⟨S64x8, .i32⟩
  | 78 => ⟨S64x8, .i32⟩
  | 79 => ⟨S_, .i32⟩
  | 80 => ⟨S64x8, .i32⟩
  | 81 => ⟨S64x8, .i32⟩
  | 82 => ⟨S_, .i32⟩
  | 83 => ⟨S64x8, .i32⟩
  | 84 => ⟨S64x8, .i32⟩
  | 85 => ⟨S64x8, .i32⟩
  | 86 => ⟨S64x8, .i32⟩
  | 87 => ⟨S64x8, .i32⟩
  | 88 => ⟨S64x8, .i32⟩
  | 89 => ⟨S64x8, .i32⟩
  | 90 => ⟨S64x8, .i32⟩
  | 91 => ⟨S_, .i32⟩
  | 92 => ⟨S64x8, .i32⟩
  | 93 => ⟨S64x8, .i32⟩
  | 94 => ⟨S64x8, .i32⟩
  | 95 => ⟨S_, .i32⟩
  | 96 => ⟨S64x8, .i32⟩
  | 97 => ⟨S64x8, .i32⟩
  | 98 => ⟨S_, .i32⟩
  | 99 => ⟨S64x8, .i32⟩
  | 100 => ⟨S64x8, .i32⟩
  | 101 => ⟨S64x8, .i32⟩
  | 102 => ⟨S64x8, .i32⟩
  | 103 => ⟨S64x8, .i32⟩
  | 104 => ⟨S_, .i32⟩
  | 105 => ⟨S64x8, .i32⟩
  | 106 => ⟨S64x8, .i32⟩
  | 107 => ⟨S_, .i32⟩
  | 108 => ⟨S64x8, .i32⟩
  | 109 => ⟨S64x8, .i32⟩
  | 110 => ⟨S64x8, .i32⟩
  | 111 => ⟨S64x8, .i32⟩
  | 112 => ⟨S64x8, .i32⟩
  | 113 => ⟨S_, .i32⟩
  | 114 => ⟨S64x8, .i32⟩
  | 115 => ⟨S64x8, .i32⟩
  | 116 => ⟨S_, .i32⟩
  | 117 => ⟨S64x8, .i32⟩
  | 118 => ⟨S64x8, .i32⟩
  | 119 => ⟨S64x8, .i32⟩
  | 120 => ⟨S64x8, .i32⟩
  | 121 => ⟨S64x8, .i32⟩
  | 122 => ⟨S_, .i32⟩
  | 123 => ⟨S64x8, .i32⟩
  | 124 => ⟨S64x8, .i32⟩
  | 125 => ⟨S_, .i32⟩
  | 126 => ⟨S64x8, .i32⟩
  | 127 => ⟨S64x8, .i32⟩
  | _ => ⟨S64x2048x256, .f32⟩

abbrev hbmTy0_2 (i : Nat) : BufTy := match i % 128 with
  | 0 => ⟨S64x8, .i32⟩
  | 1 => ⟨S64x8, .i32⟩
  | 2 => ⟨S64x8, .i32⟩
  | 3 => ⟨S64x8, .i32⟩
  | 4 => ⟨S64x8, .i32⟩
  | 5 => ⟨S64x8, .i32⟩
  | 6 => ⟨S_, .i32⟩
  | 7 => ⟨S64x8, .i32⟩
  | 8 => ⟨S64x8, .i32⟩
  | 9 => ⟨S64x8, .i32⟩
  | 10 => ⟨S_, .i32⟩
  | 11 => ⟨S64x8, .i32⟩
  | 12 => ⟨S64x8, .i32⟩
  | 13 => ⟨S_, .i32⟩
  | 14 => ⟨S64x8, .i32⟩
  | 15 => ⟨S64x8, .i32⟩
  | 16 => ⟨S64x8, .f32⟩
  | 17 => ⟨S_, .f32⟩
  | 18 => ⟨S64x8, .f32⟩
  | 19 => ⟨S64x8, .f32⟩
  | 20 => ⟨S1x1, .f32⟩
  | 21 => ⟨S64x8, .f32⟩
  | 22 => ⟨S64x8, .f32⟩
  | 23 => ⟨S64x8, .f32⟩
  | 24 => ⟨S64x8, .f32⟩
  | 25 => ⟨S64x8, .f32⟩
  | 26 => ⟨S64x8, .f32⟩
  | 27 => ⟨S64x8, .i32⟩
  | 28 => ⟨S64x8, .f32⟩
  | 29 => ⟨S64x8, .i32⟩
  | 30 => ⟨S64x8, .i32⟩
  | 31 => ⟨S64x8, .i32⟩
  | 32 => ⟨S64x8, .i32⟩
  | 33 => ⟨S_, .i32⟩
  | 34 => ⟨S64x8, .i32⟩
  | 35 => ⟨S64x8, .i1⟩
  | 36 => ⟨S64x8, .f32⟩
  | 37 => ⟨S64x8x32, .f32⟩
  | 38 => ⟨S64x256, .f32⟩
  | 39 => ⟨S1x256, .f32⟩
  | 40 => ⟨S1x160, .f32⟩
  | 41 => ⟨S256x160, .bf16⟩
  | 42 => ⟨S64x160, .f32⟩
  | 43 => ⟨S64x1x256, .f32⟩
  | 44 => ⟨S64x1x160, .f32⟩
  | 45 => ⟨S64x2048x160, .f32⟩
  | _ => ⟨S64x2048x256, .f32⟩

abbrev hbmTy (i : Nat) : BufTy := match i / 128 with
  | 0 => hbmTy0_0 i
  | 1 => hbmTy0_1 i
  | 2 => hbmTy0_2 i
  | _ => ⟨S64x2048x256, .f32⟩

abbrev bufTy : (tb : Table) → Fin (tcTables nBuf tb) → BufTy
  | .hbm, ⟨i, _⟩ => hbmTy i
  | .local _ .vmem, ⟨0, _⟩ => ⟨S64x8, .f32⟩
  | .local _ .vmem, ⟨1, _⟩ => ⟨S8x32x16, .f32⟩
  | .local _ .vmem, ⟨2, _⟩ => ⟨S8x16, .f32⟩
  | .local _ .vmem, ⟨3, _⟩ => ⟨S128x256, .f32⟩
  | .local _ .vmem, ⟨4, _⟩ => ⟨S1x256, .f32⟩
  | .local _ .vmem, ⟨5, _⟩ => ⟨S256x160, .f32⟩
  | .local _ .vmem, ⟨6, _⟩ => ⟨S1x160, .f32⟩
  | .local _ .vmem, ⟨7, _⟩ => ⟨S256x160, .bf16⟩
  | .local _ .vmem, ⟨8, _⟩ => ⟨S64x160, .f32⟩
  | .local _ .vmem, ⟨9, _⟩ => ⟨S4x2048x256, .f32⟩
  | .local _ .vmem, ⟨10, _⟩ => ⟨S4x2048x256, .f32⟩
  | .local _ .vmem, ⟨11, _⟩ => ⟨S4x1x256, .f32⟩
  | .local _ .vmem, ⟨12, _⟩ => ⟨S4x1x256, .f32⟩
  | .local _ .vmem, ⟨13, _⟩ => ⟨S4x1x160, .f32⟩
  | .local _ .vmem, ⟨14, _⟩ => ⟨S4x1x160, .f32⟩
  | .local _ .vmem, ⟨15, _⟩ => ⟨S256x160, .bf16⟩
  | .local _ .vmem, ⟨16, _⟩ => ⟨S4x2048x160, .f32⟩
  | .local _ .vmem, ⟨17, _⟩ => ⟨S4x2048x160, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_c : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_c_1 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_call0_v0 : Ref sig .tc := ⟨.hbm, 43, rfl⟩
abbrev main_call0_call0_c : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_c_0 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_c_1 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_call0_v12 : Ref sig .tc := ⟨.hbm, 58, rfl⟩
abbrev main_call0_call0_v13 : Ref sig .tc := ⟨.hbm, 59, rfl⟩
abbrev main_call0_call0_c_2 : Ref sig .tc := ⟨.hbm, 60, rfl⟩
abbrev main_call0_call0_v14 : Ref sig .tc := ⟨.hbm, 61, rfl⟩
abbrev main_call0_call0_v15 : Ref sig .tc := ⟨.hbm, 62, rfl⟩
abbrev main_call0_call0_c_3 : Ref sig .tc := ⟨.hbm, 63, rfl⟩
abbrev main_call0_call0_v16 : Ref sig .tc := ⟨.hbm, 64, rfl⟩
abbrev main_call0_call0_v17 : Ref sig .tc := ⟨.hbm, 65, rfl⟩
abbrev main_call0_call0_v18 : Ref sig .tc := ⟨.hbm, 66, rfl⟩
abbrev main_call0_call0_v19 : Ref sig .tc := ⟨.hbm, 67, rfl⟩
abbrev main_call0_call0_v20 : Ref sig .tc := ⟨.hbm, 68, rfl⟩
abbrev main_call0_call0_c_4 : Ref sig .tc := ⟨.hbm, 69, rfl⟩
abbrev main_call0_call0_v21 : Ref sig .tc := ⟨.hbm, 70, rfl⟩
abbrev main_call0_call0_v22 : Ref sig .tc := ⟨.hbm, 71, rfl⟩
abbrev main_call0_call0_c_5 : Ref sig .tc := ⟨.hbm, 72, rfl⟩
abbrev main_call0_call0_v23 : Ref sig .tc := ⟨.hbm, 73, rfl⟩
abbrev main_call0_call0_v24 : Ref sig .tc := ⟨.hbm, 74, rfl⟩
abbrev main_call0_call0_v25 : Ref sig .tc := ⟨.hbm, 75, rfl⟩
abbrev main_call0_call0_v26 : Ref sig .tc := ⟨.hbm, 76, rfl⟩
abbrev main_call0_call0_v27 : Ref sig .tc := ⟨.hbm, 77, rfl⟩
abbrev main_call0_call0_c_6 : Ref sig .tc := ⟨.hbm, 78, rfl⟩
abbrev main_call0_call0_v28 : Ref sig .tc := ⟨.hbm, 79, rfl⟩
abbrev main_call0_call0_v29 : Ref sig .tc := ⟨.hbm, 80, rfl⟩
abbrev main_call0_call0_c_7 : Ref sig .tc := ⟨.hbm, 81, rfl⟩
abbrev main_call0_call0_v30 : Ref sig .tc := ⟨.hbm, 82, rfl⟩
abbrev main_call0_call0_v31 : Ref sig .tc := ⟨.hbm, 83, rfl⟩
abbrev main_call0_call0_v32 : Ref sig .tc := ⟨.hbm, 84, rfl⟩
abbrev main_call0_call0_v33 : Ref sig .tc := ⟨.hbm, 85, rfl⟩
abbrev main_call0_call0_v34 : Ref sig .tc := ⟨.hbm, 86, rfl⟩
abbrev main_call0_call0_v35 : Ref sig .tc := ⟨.hbm, 87, rfl⟩
abbrev main_call0_call0_v36 : Ref sig .tc := ⟨.hbm, 88, rfl⟩
abbrev main_call0_call0_v37 : Ref sig .tc := ⟨.hbm, 89, rfl⟩
abbrev main_call0_call0_c_8 : Ref sig .tc := ⟨.hbm, 90, rfl⟩
abbrev main_call0_call0_v38 : Ref sig .tc := ⟨.hbm, 91, rfl⟩
abbrev main_call0_call0_v39 : Ref sig .tc := ⟨.hbm, 92, rfl⟩
abbrev main_call0_call0_v40 : Ref sig .tc := ⟨.hbm, 93, rfl⟩
abbrev main_call0_call0_c_9 : Ref sig .tc := ⟨.hbm, 94, rfl⟩
abbrev main_call0_call0_v41 : Ref sig .tc := ⟨.hbm, 95, rfl⟩
abbrev main_call0_call0_v42 : Ref sig .tc := ⟨.hbm, 96, rfl⟩
abbrev main_call0_call0_c_10 : Ref sig .tc := ⟨.hbm, 97, rfl⟩
abbrev main_call0_call0_v43 : Ref sig .tc := ⟨.hbm, 98, rfl⟩
abbrev main_call0_call0_v44 : Ref sig .tc := ⟨.hbm, 99, rfl⟩
abbrev main_call0_call0_v45 : Ref sig .tc := ⟨.hbm, 100, rfl⟩
abbrev main_call0_call0_v46 : Ref sig .tc := ⟨.hbm, 101, rfl⟩
abbrev main_call0_call0_v47 : Ref sig .tc := ⟨.hbm, 102, rfl⟩
abbrev main_call0_call0_c_11 : Ref sig .tc := ⟨.hbm, 103, rfl⟩
abbrev main_call0_call0_v48 : Ref sig .tc := ⟨.hbm, 104, rfl⟩
abbrev main_call0_call0_v49 : Ref sig .tc := ⟨.hbm, 105, rfl⟩
abbrev main_call0_call0_c_12 : Ref sig .tc := ⟨.hbm, 106, rfl⟩
abbrev main_call0_call0_v50 : Ref sig .tc := ⟨.hbm, 107, rfl⟩
abbrev main_call0_call0_v51 : Ref sig .tc := ⟨.hbm, 108, rfl⟩
abbrev main_call0_call0_v52 : Ref sig .tc := ⟨.hbm, 109, rfl⟩
abbrev main_call0_call0_v53 : Ref sig .tc := ⟨.hbm, 110, rfl⟩
abbrev main_call0_call0_v54 : Ref sig .tc := ⟨.hbm, 111, rfl⟩
abbrev main_call0_call0_c_13 : Ref sig .tc := ⟨.hbm, 112, rfl⟩
abbrev main_call0_call0_v55 : Ref sig .tc := ⟨.hbm, 113, rfl⟩
abbrev main_call0_call0_v56 : Ref sig .tc := ⟨.hbm, 114, rfl⟩
abbrev main_call0_call0_c_14 : Ref sig .tc := ⟨.hbm, 115, rfl⟩
abbrev main_call0_call0_v57 : Ref sig .tc := ⟨.hbm, 116, rfl⟩
abbrev main_call0_call0_v58 : Ref sig .tc := ⟨.hbm, 117, rfl⟩
abbrev main_call0_call0_v59 : Ref sig .tc := ⟨.hbm, 118, rfl⟩
abbrev main_call0_call0_v60 : Ref sig .tc := ⟨.hbm, 119, rfl⟩
abbrev main_call0_call0_v61 : Ref sig .tc := ⟨.hbm, 120, rfl⟩
abbrev main_call0_call0_c_15 : Ref sig .tc := ⟨.hbm, 121, rfl⟩
abbrev main_call0_call0_v62 : Ref sig .tc := ⟨.hbm, 122, rfl⟩
abbrev main_call0_call0_v63 : Ref sig .tc := ⟨.hbm, 123, rfl⟩
abbrev main_call0_call0_c_16 : Ref sig .tc := ⟨.hbm, 124, rfl⟩
abbrev main_call0_call0_v64 : Ref sig .tc := ⟨.hbm, 125, rfl⟩
abbrev main_call0_call0_v65 : Ref sig .tc := ⟨.hbm, 126, rfl⟩
abbrev main_call0_call0_v66 : Ref sig .tc := ⟨.hbm, 127, rfl⟩
abbrev main_call0_call0_v67 : Ref sig .tc := ⟨.hbm, 128, rfl⟩
abbrev main_call0_call0_v68 : Ref sig .tc := ⟨.hbm, 129, rfl⟩
abbrev main_call0_call0_v69 : Ref sig .tc := ⟨.hbm, 130, rfl⟩
abbrev main_call0_call0_v70 : Ref sig .tc := ⟨.hbm, 131, rfl⟩
abbrev main_call0_call0_v71 : Ref sig .tc := ⟨.hbm, 132, rfl⟩
abbrev main_call0_call0_c_17 : Ref sig .tc := ⟨.hbm, 133, rfl⟩
abbrev main_call0_call0_v72 : Ref sig .tc := ⟨.hbm, 134, rfl⟩
abbrev main_call0_call0_v73 : Ref sig .tc := ⟨.hbm, 135, rfl⟩
abbrev main_call0_call0_v74 : Ref sig .tc := ⟨.hbm, 136, rfl⟩
abbrev main_call0_call0_c_18 : Ref sig .tc := ⟨.hbm, 137, rfl⟩
abbrev main_call0_call0_v75 : Ref sig .tc := ⟨.hbm, 138, rfl⟩
abbrev main_call0_call0_v76 : Ref sig .tc := ⟨.hbm, 139, rfl⟩
abbrev main_call0_call0_c_19 : Ref sig .tc := ⟨.hbm, 140, rfl⟩
abbrev main_call0_call0_v77 : Ref sig .tc := ⟨.hbm, 141, rfl⟩
abbrev main_call0_call0_v78 : Ref sig .tc := ⟨.hbm, 142, rfl⟩
abbrev main_call0_call0_v79 : Ref sig .tc := ⟨.hbm, 143, rfl⟩
abbrev main_call0_call0_v80 : Ref sig .tc := ⟨.hbm, 144, rfl⟩
abbrev main_call0_call0_v81 : Ref sig .tc := ⟨.hbm, 145, rfl⟩
abbrev main_call0_call0_c_20 : Ref sig .tc := ⟨.hbm, 146, rfl⟩
abbrev main_call0_call0_v82 : Ref sig .tc := ⟨.hbm, 147, rfl⟩
abbrev main_call0_call0_v83 : Ref sig .tc := ⟨.hbm, 148, rfl⟩
abbrev main_call0_call0_c_21 : Ref sig .tc := ⟨.hbm, 149, rfl⟩
abbrev main_call0_call0_v84 : Ref sig .tc := ⟨.hbm, 150, rfl⟩
abbrev main_call0_call0_v85 : Ref sig .tc := ⟨.hbm, 151, rfl⟩
abbrev main_call0_call0_v86 : Ref sig .tc := ⟨.hbm, 152, rfl⟩
abbrev main_call0_call0_v87 : Ref sig .tc := ⟨.hbm, 153, rfl⟩
abbrev main_call0_call0_v88 : Ref sig .tc := ⟨.hbm, 154, rfl⟩
abbrev main_call0_call0_c_22 : Ref sig .tc := ⟨.hbm, 155, rfl⟩
abbrev main_call0_call0_v89 : Ref sig .tc := ⟨.hbm, 156, rfl⟩
abbrev main_call0_call0_v90 : Ref sig .tc := ⟨.hbm, 157, rfl⟩
abbrev main_call0_call0_c_23 : Ref sig .tc := ⟨.hbm, 158, rfl⟩
abbrev main_call0_call0_v91 : Ref sig .tc := ⟨.hbm, 159, rfl⟩
abbrev main_call0_call0_v92 : Ref sig .tc := ⟨.hbm, 160, rfl⟩
abbrev main_call0_call0_v93 : Ref sig .tc := ⟨.hbm, 161, rfl⟩
abbrev main_call0_call0_v94 : Ref sig .tc := ⟨.hbm, 162, rfl⟩
abbrev main_call0_call0_v95 : Ref sig .tc := ⟨.hbm, 163, rfl⟩
abbrev main_call0_call0_c_24 : Ref sig .tc := ⟨.hbm, 164, rfl⟩
abbrev main_call0_call0_v96 : Ref sig .tc := ⟨.hbm, 165, rfl⟩
abbrev main_call0_call0_v97 : Ref sig .tc := ⟨.hbm, 166, rfl⟩
abbrev main_call0_call0_c_25 : Ref sig .tc := ⟨.hbm, 167, rfl⟩
abbrev main_call0_call0_v98 : Ref sig .tc := ⟨.hbm, 168, rfl⟩
abbrev main_call0_call0_v99 : Ref sig .tc := ⟨.hbm, 169, rfl⟩
abbrev main_call0_call0_v100 : Ref sig .tc := ⟨.hbm, 170, rfl⟩
abbrev main_call0_call0_v101 : Ref sig .tc := ⟨.hbm, 171, rfl⟩
abbrev main_call0_call0_v102 : Ref sig .tc := ⟨.hbm, 172, rfl⟩
abbrev main_call0_call0_v103 : Ref sig .tc := ⟨.hbm, 173, rfl⟩
abbrev main_call0_call0_v104 : Ref sig .tc := ⟨.hbm, 174, rfl⟩
abbrev main_call0_call0_v105 : Ref sig .tc := ⟨.hbm, 175, rfl⟩
abbrev main_call0_call0_c_26 : Ref sig .tc := ⟨.hbm, 176, rfl⟩
abbrev main_call0_call0_v106 : Ref sig .tc := ⟨.hbm, 177, rfl⟩
abbrev main_call0_call0_v107 : Ref sig .tc := ⟨.hbm, 178, rfl⟩
abbrev main_call0_call0_v108 : Ref sig .tc := ⟨.hbm, 179, rfl⟩
abbrev main_call0_call0_c_27 : Ref sig .tc := ⟨.hbm, 180, rfl⟩
abbrev main_call0_call0_v109 : Ref sig .tc := ⟨.hbm, 181, rfl⟩
abbrev main_call0_call0_v110 : Ref sig .tc := ⟨.hbm, 182, rfl⟩
abbrev main_call0_call0_c_28 : Ref sig .tc := ⟨.hbm, 183, rfl⟩
abbrev main_call0_call0_v111 : Ref sig .tc := ⟨.hbm, 184, rfl⟩
abbrev main_call0_call0_v112 : Ref sig .tc := ⟨.hbm, 185, rfl⟩
abbrev main_call0_call0_v113 : Ref sig .tc := ⟨.hbm, 186, rfl⟩
abbrev main_call0_call0_v114 : Ref sig .tc := ⟨.hbm, 187, rfl⟩
abbrev main_call0_call0_v115 : Ref sig .tc := ⟨.hbm, 188, rfl⟩
abbrev main_call0_call0_c_29 : Ref sig .tc := ⟨.hbm, 189, rfl⟩
abbrev main_call0_call0_v116 : Ref sig .tc := ⟨.hbm, 190, rfl⟩
abbrev main_call0_call0_v117 : Ref sig .tc := ⟨.hbm, 191, rfl⟩
abbrev main_call0_call0_c_30 : Ref sig .tc := ⟨.hbm, 192, rfl⟩
abbrev main_call0_call0_v118 : Ref sig .tc := ⟨.hbm, 193, rfl⟩
abbrev main_call0_call0_v119 : Ref sig .tc := ⟨.hbm, 194, rfl⟩
abbrev main_call0_call0_v120 : Ref sig .tc := ⟨.hbm, 195, rfl⟩
abbrev main_call0_call0_v121 : Ref sig .tc := ⟨.hbm, 196, rfl⟩
abbrev main_call0_call0_v122 : Ref sig .tc := ⟨.hbm, 197, rfl⟩
abbrev main_call0_call0_c_31 : Ref sig .tc := ⟨.hbm, 198, rfl⟩
abbrev main_call0_call0_v123 : Ref sig .tc := ⟨.hbm, 199, rfl⟩
abbrev main_call0_call0_v124 : Ref sig .tc := ⟨.hbm, 200, rfl⟩
abbrev main_call0_call0_c_32 : Ref sig .tc := ⟨.hbm, 201, rfl⟩
abbrev main_call0_call0_v125 : Ref sig .tc := ⟨.hbm, 202, rfl⟩
abbrev main_call0_call0_v126 : Ref sig .tc := ⟨.hbm, 203, rfl⟩
abbrev main_call0_call0_v127 : Ref sig .tc := ⟨.hbm, 204, rfl⟩
abbrev main_call0_call0_v128 : Ref sig .tc := ⟨.hbm, 205, rfl⟩
abbrev main_call0_call0_v129 : Ref sig .tc := ⟨.hbm, 206, rfl⟩
abbrev main_call0_call0_c_33 : Ref sig .tc := ⟨.hbm, 207, rfl⟩
abbrev main_call0_call0_v130 : Ref sig .tc := ⟨.hbm, 208, rfl⟩
abbrev main_call0_call0_v131 : Ref sig .tc := ⟨.hbm, 209, rfl⟩
abbrev main_call0_call0_c_34 : Ref sig .tc := ⟨.hbm, 210, rfl⟩
abbrev main_call0_call0_v132 : Ref sig .tc := ⟨.hbm, 211, rfl⟩
abbrev main_call0_call0_v133 : Ref sig .tc := ⟨.hbm, 212, rfl⟩
abbrev main_call0_call0_v134 : Ref sig .tc := ⟨.hbm, 213, rfl⟩
abbrev main_call0_call0_v135 : Ref sig .tc := ⟨.hbm, 214, rfl⟩
abbrev main_call0_call0_v136 : Ref sig .tc := ⟨.hbm, 215, rfl⟩
abbrev main_call0_call0_v137 : Ref sig .tc := ⟨.hbm, 216, rfl⟩
abbrev main_call0_call0_v138 : Ref sig .tc := ⟨.hbm, 217, rfl⟩
abbrev main_call0_call0_v139 : Ref sig .tc := ⟨.hbm, 218, rfl⟩
abbrev main_call0_call0_c_35 : Ref sig .tc := ⟨.hbm, 219, rfl⟩
abbrev main_call0_call0_v140 : Ref sig .tc := ⟨.hbm, 220, rfl⟩
abbrev main_call0_call0_v141 : Ref sig .tc := ⟨.hbm, 221, rfl⟩
abbrev main_call0_call0_v142 : Ref sig .tc := ⟨.hbm, 222, rfl⟩
abbrev main_call0_call0_c_36 : Ref sig .tc := ⟨.hbm, 223, rfl⟩
abbrev main_call0_call0_v143 : Ref sig .tc := ⟨.hbm, 224, rfl⟩
abbrev main_call0_call0_v144 : Ref sig .tc := ⟨.hbm, 225, rfl⟩
abbrev main_call0_call0_c_37 : Ref sig .tc := ⟨.hbm, 226, rfl⟩
abbrev main_call0_call0_v145 : Ref sig .tc := ⟨.hbm, 227, rfl⟩
abbrev main_call0_call0_v146 : Ref sig .tc := ⟨.hbm, 228, rfl⟩
abbrev main_call0_call0_v147 : Ref sig .tc := ⟨.hbm, 229, rfl⟩
abbrev main_call0_call0_v148 : Ref sig .tc := ⟨.hbm, 230, rfl⟩
abbrev main_call0_call0_v149 : Ref sig .tc := ⟨.hbm, 231, rfl⟩
abbrev main_call0_call0_c_38 : Ref sig .tc := ⟨.hbm, 232, rfl⟩
abbrev main_call0_call0_v150 : Ref sig .tc := ⟨.hbm, 233, rfl⟩
abbrev main_call0_call0_v151 : Ref sig .tc := ⟨.hbm, 234, rfl⟩
abbrev main_call0_call0_c_39 : Ref sig .tc := ⟨.hbm, 235, rfl⟩
abbrev main_call0_call0_v152 : Ref sig .tc := ⟨.hbm, 236, rfl⟩
abbrev main_call0_call0_v153 : Ref sig .tc := ⟨.hbm, 237, rfl⟩
abbrev main_call0_call0_v154 : Ref sig .tc := ⟨.hbm, 238, rfl⟩
abbrev main_call0_call0_v155 : Ref sig .tc := ⟨.hbm, 239, rfl⟩
abbrev main_call0_call0_v156 : Ref sig .tc := ⟨.hbm, 240, rfl⟩
abbrev main_call0_call0_c_40 : Ref sig .tc := ⟨.hbm, 241, rfl⟩
abbrev main_call0_call0_v157 : Ref sig .tc := ⟨.hbm, 242, rfl⟩
abbrev main_call0_call0_v158 : Ref sig .tc := ⟨.hbm, 243, rfl⟩
abbrev main_call0_call0_c_41 : Ref sig .tc := ⟨.hbm, 244, rfl⟩
abbrev main_call0_call0_v159 : Ref sig .tc := ⟨.hbm, 245, rfl⟩
abbrev main_call0_call0_v160 : Ref sig .tc := ⟨.hbm, 246, rfl⟩
abbrev main_call0_call0_v161 : Ref sig .tc := ⟨.hbm, 247, rfl⟩
abbrev main_call0_call0_v162 : Ref sig .tc := ⟨.hbm, 248, rfl⟩
abbrev main_call0_call0_v163 : Ref sig .tc := ⟨.hbm, 249, rfl⟩
abbrev main_call0_call0_c_42 : Ref sig .tc := ⟨.hbm, 250, rfl⟩
abbrev main_call0_call0_v164 : Ref sig .tc := ⟨.hbm, 251, rfl⟩
abbrev main_call0_call0_v165 : Ref sig .tc := ⟨.hbm, 252, rfl⟩
abbrev main_call0_call0_c_43 : Ref sig .tc := ⟨.hbm, 253, rfl⟩
abbrev main_call0_call0_v166 : Ref sig .tc := ⟨.hbm, 254, rfl⟩
abbrev main_call0_call0_v167 : Ref sig .tc := ⟨.hbm, 255, rfl⟩
abbrev main_call0_call0_v168 : Ref sig .tc := ⟨.hbm, 256, rfl⟩
abbrev main_call0_call0_v169 : Ref sig .tc := ⟨.hbm, 257, rfl⟩
abbrev main_call0_call0_v170 : Ref sig .tc := ⟨.hbm, 258, rfl⟩
abbrev main_call0_v19_0 : Ref sig .tc := ⟨.hbm, 259, rfl⟩
abbrev main_call0_call0_v172 : Ref sig .tc := ⟨.hbm, 260, rfl⟩
abbrev main_call0_call0_v173 : Ref sig .tc := ⟨.hbm, 261, rfl⟩
abbrev main_call0_call0_c_44 : Ref sig .tc := ⟨.hbm, 262, rfl⟩
abbrev main_call0_call0_v174 : Ref sig .tc := ⟨.hbm, 263, rfl⟩
abbrev main_call0_v19_1 : Ref sig .tc := ⟨.hbm, 264, rfl⟩
abbrev main_call0_v20 : Ref sig .tc := ⟨.hbm, 265, rfl⟩
abbrev main_call0_c_2 : Ref sig .tc := ⟨.hbm, 266, rfl⟩
abbrev main_call0_v21 : Ref sig .tc := ⟨.hbm, 267, rfl⟩
abbrev main_call0_v22 : Ref sig .tc := ⟨.hbm, 268, rfl⟩
abbrev main_call0_c_3 : Ref sig .tc := ⟨.hbm, 269, rfl⟩
abbrev main_call0_v23 : Ref sig .tc := ⟨.hbm, 270, rfl⟩
abbrev main_call0_v24 : Ref sig .tc := ⟨.hbm, 271, rfl⟩
abbrev main_call0_v25 : Ref sig .tc := ⟨.hbm, 272, rfl⟩
abbrev main_call0_cst : Ref sig .tc := ⟨.hbm, 273, rfl⟩
abbrev main_call0_v26 : Ref sig .tc := ⟨.hbm, 274, rfl⟩
abbrev main_call0_v27 : Ref sig .tc := ⟨.hbm, 275, rfl⟩
abbrev main_call0_v28 : Ref sig .tc := ⟨.hbm, 276, rfl⟩
abbrev main_call0_v29 : Ref sig .tc := ⟨.hbm, 277, rfl⟩
abbrev main_call0_v30 : Ref sig .tc := ⟨.hbm, 278, rfl⟩
abbrev main_call0_v31 : Ref sig .tc := ⟨.hbm, 279, rfl⟩
abbrev main_call0_v32 : Ref sig .tc := ⟨.hbm, 280, rfl⟩
abbrev main_call0_v33 : Ref sig .tc := ⟨.hbm, 281, rfl⟩
abbrev main_v7 : Ref sig .tc := ⟨.hbm, 282, rfl⟩
abbrev main_call1_v0 : Ref sig .tc := ⟨.hbm, 283, rfl⟩
abbrev main_call1_v1_0 : Ref sig .tc := ⟨.hbm, 284, rfl⟩
abbrev main_v8 : Ref sig .tc := ⟨.hbm, 285, rfl⟩
abbrev main_call2_v0 : Ref sig .tc := ⟨.hbm, 286, rfl⟩
abbrev main_call2_v1_0 : Ref sig .tc := ⟨.hbm, 287, rfl⟩
abbrev main_v9 : Ref sig .tc := ⟨.hbm, 288, rfl⟩
abbrev main_c_3 : Ref sig .tc := ⟨.hbm, 289, rfl⟩
abbrev main_v10 : Ref sig .tc := ⟨.hbm, 290, rfl⟩
abbrev main_v11 : Ref sig .tc := ⟨.hbm, 291, rfl⟩
abbrev main_v12 : Ref sig .tc := ⟨.hbm, 292, rfl⟩
abbrev main_v13 : Ref sig .tc := ⟨.hbm, 293, rfl⟩
abbrev main_v14 : Ref sig .tc := ⟨.hbm, 294, rfl⟩
abbrev main_v15 : Ref sig .tc := ⟨.hbm, 295, rfl⟩
abbrev main_v16 : Ref sig .tc := ⟨.hbm, 296, rfl⟩
abbrev main_v17_0 : Ref sig .tc := ⟨.hbm, 297, rfl⟩
abbrev main_v17_1 : Ref sig .tc := ⟨.hbm, 298, rfl⟩
abbrev main_v18 : Ref sig .tc := ⟨.hbm, 299, rfl⟩
abbrev main_v19 : Ref sig .tc := ⟨.hbm, 300, rfl⟩
abbrev main_v20 : Ref sig .tc := ⟨.hbm, 301, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := .none

abbrev stage0_0 : Fin 1 → Memref sig .tc .vmem S64x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x1x160 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x160 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x2048x160 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S64x2048x256 : Shape := ⟨3, ![64, 2048, 256]⟩
abbrev S64x256 : Shape := ⟨2, ![64, 256]⟩
abbrev S64 : Shape := ⟨1, ![64]⟩
abbrev S8x32x16 : Shape := ⟨3, ![8, 32, 16]⟩
abbrev S8x16 : Shape := ⟨2, ![8, 16]⟩
abbrev S128x256 : Shape := ⟨2, ![128, 256]⟩
abbrev S256 : Shape := ⟨1, ![256]⟩
abbrev S256x160 : Shape := ⟨2, ![256, 160]⟩
abbrev S160 : Shape := ⟨1, ![160]⟩
abbrev S1x256 : Shape := ⟨2, ![1, 256]⟩
abbrev S8 : Shape := ⟨1, ![8]⟩
abbrev S8x1 : Shape := ⟨2, ![8, 1]⟩
abbrev S8x256 : Shape := ⟨2, ![8, 256]⟩
abbrev S_ : Shape := ⟨0, ![]⟩
abbrev S8x1x256 : Shape := ⟨3, ![8, 1, 256]⟩
abbrev S32 : Shape := ⟨1, ![32]⟩
abbrev S1x32x1 : Shape := ⟨3, ![1, 32, 1]⟩
abbrev S8x32x256 : Shape := ⟨3, ![8, 32, 256]⟩
abbrev S1x1x256 : Shape := ⟨3, ![1, 1, 256]⟩
abbrev S8x32 : Shape := ⟨2, ![8, 32]⟩
abbrev S8x32x1 : Shape := ⟨3, ![8, 32, 1]⟩
abbrev S1 : Shape := ⟨1, ![1]⟩
abbrev S1x1x1 : Shape := ⟨3, ![1, 1, 1]⟩
abbrev S64x2048x8x32 : Shape := ⟨4, ![64, 2048, 8, 32]⟩
abbrev S8x16x64x2048 : Shape := ⟨4, ![8, 16, 64, 2048]⟩
abbrev S64x2048x8x16 : Shape := ⟨4, ![64, 2048, 8, 16]⟩
abbrev S1x1x8x16 : Shape := ⟨4, ![1, 1, 8, 16]⟩
abbrev S2 : Shape := ⟨1, ![2]⟩
abbrev S1x1 : Shape := ⟨2, ![1, 1]⟩
abbrev S64x8 : Shape := ⟨2, ![64, 8]⟩
abbrev S64x6 : Shape := ⟨2, ![64, 6]⟩
abbrev S64x1x6x1 : Shape := ⟨4, ![64, 1, 6, 1]⟩
abbrev S64x2048x6x16 : Shape := ⟨4, ![64, 2048, 6, 16]⟩
abbrev S64x2048x6x16x1 : Shape := ⟨5, ![64, 2048, 6, 16, 1]⟩
abbrev S1x1x1x1x1 : Shape := ⟨5, ![1, 1, 1, 1, 1]⟩
abbrev S64x2048x2x16 : Shape := ⟨4, ![64, 2048, 2, 16]⟩
abbrev S64x1x8x1 : Shape := ⟨4, ![64, 1, 8, 1]⟩
abbrev S64x2048x8x16x1 : Shape := ⟨5, ![64, 2048, 8, 16, 1]⟩
abbrev S64x2048x128 : Shape := ⟨3, ![64, 2048, 128]⟩
abbrev S64x2048x160 : Shape := ⟨3, ![64, 2048, 160]⟩
abbrev S1x1x160 : Shape := ⟨3, ![1, 1, 160]⟩

abbrev nBuf : Space → Nat
  | .hbm => 411
  | .vmem => 0
  | .smem => 0
  | _ => 0

abbrev hbmTy0_0 (i : Nat) : BufTy := match i % 128 with
  | 0 => ⟨S64x2048x256, .f32⟩
  | 1 => ⟨S64x256, .i32⟩
  | 2 => ⟨S64, .i32⟩
  | 3 => ⟨S8x32x16, .f32⟩
  | 4 => ⟨S8x16, .f32⟩
  | 5 => ⟨S128x256, .f32⟩
  | 6 => ⟨S256, .f32⟩
  | 7 => ⟨S256x160, .f32⟩
  | 8 => ⟨S160, .f32⟩
  | 9 => ⟨S1x256, .i32⟩
  | 10 => ⟨S256, .i32⟩
  | 11 => ⟨S1x256, .i32⟩
  | 12 => ⟨S8, .i32⟩
  | 13 => ⟨S8x1, .i32⟩
  | 14 => ⟨S8x256, .i32⟩
  | 15 => ⟨S8x256, .i32⟩
  | 16 => ⟨S8x256, .i1⟩
  | 17 => ⟨S8x256, .i32⟩
  | 18 => ⟨S_, .i32⟩
  | 19 => ⟨S_, .i32⟩
  | 20 => ⟨S8x256, .i32⟩
  | 21 => ⟨S8x1x256, .i1⟩
  | 22 => ⟨S8x1x256, .i32⟩
  | 23 => ⟨S32, .i32⟩
  | 24 => ⟨S_, .i32⟩
  | 25 => ⟨S32, .i32⟩
  | 26 => ⟨S32, .i32⟩
  | 27 => ⟨S1x32x1, .i32⟩
  | 28 => ⟨S8x32x256, .i32⟩
  | 29 => ⟨S8x32x256, .i32⟩
  | 30 => ⟨S8x32x256, .i1⟩
  | 31 => ⟨S8x32x256, .i1⟩
  | 32 => ⟨S8x32x256, .i1⟩
  | 33 => ⟨S256, .i32⟩
  | 34 => ⟨S1x1x256, .i32⟩
  | 35 => ⟨S_, .i32⟩
  | 36 => ⟨S_, .i32⟩
  | 37 => ⟨S8x32x256, .i32⟩
  | 38 => ⟨S8x32x256, .i32⟩
  | 39 => ⟨S8x32x256, .i32⟩
  | 40 => ⟨S_, .i32⟩
  | 41 => ⟨S8x32, .i32⟩
  | 42 => ⟨S_, .i32⟩
  | 43 => ⟨S8x32, .i32⟩
  | 44 => ⟨S8x32, .i1⟩
  | 45 => ⟨S_, .i32⟩
  | 46 => ⟨S8x32, .i32⟩
  | 47 => ⟨S8x32, .i32⟩
  | 48 => ⟨S8x32, .i32⟩
  | 49 => ⟨S8x32x1, .i32⟩
  | 50 => ⟨S1, .i32⟩
  | 51 => ⟨S_, .i32⟩
  | 52 => ⟨S8x32x1, .i32⟩
  | 53 => ⟨S8x32x1, .i1⟩
  | 54 => ⟨S1x1x1, .i32⟩
  | 55 => ⟨S8x32x1, .i32⟩
  | 56 => ⟨S8x32x1, .i1⟩
  | 57 => ⟨S8x32x1, .i1⟩
  | 58 => ⟨S_, .i1⟩
  | 59 => ⟨S8x32, .i1⟩
  | 60 => ⟨S64x2048x8x32, .f32⟩
  | 61 => ⟨S64x2048x8x32, .i1⟩
  | 62 => ⟨S_, .f32⟩
  | 63 => ⟨S64x2048x8x32, .f32⟩
  | 64 => ⟨S64x2048x8x32, .f32⟩
  | 65 => ⟨S8x16x64x2048, .f32⟩
  | 66 => ⟨S64x2048x8x16, .f32⟩
  | 67 => ⟨S1x1x8x16, .f32⟩
  | 68 => ⟨S64x2048x8x16, .f32⟩
  | 69 => ⟨S64x2048x8x16, .f32⟩
  | 70 => ⟨S_, .i32⟩
  | 71 => ⟨S_, .i32⟩
  | 72 => ⟨S_, .i32⟩
  | 73 => ⟨S_, .i32⟩
  | 74 => ⟨S1, .i32⟩
  | 75 => ⟨S_, .i32⟩
  | 76 => ⟨S_, .i32⟩
  | 77 => ⟨S_, .i32⟩
  | 78 => ⟨S1, .i32⟩
  | 79 => ⟨S2, .i32⟩
  | 80 => ⟨S_, .f32⟩
  | 81 => ⟨S_, .f32⟩
  | 82 => ⟨S_, .f32⟩
  | 83 => ⟨S_, .f32⟩
  | 84 => ⟨S1x1, .f32⟩
  | 85 => ⟨S1x1, .f32⟩
  | 86 => ⟨S1, .i32⟩
  | 87 => ⟨S_, .i32⟩
  | 88 => ⟨S1, .i32⟩
  | 89 => ⟨S_, .i32⟩
  | 90 => ⟨S64x8, .i64⟩
  | 91 => ⟨S64x8, .i64⟩
  | 92 => ⟨S_, .i64⟩
  | 93 => ⟨S64x8, .i64⟩
  | 94 => ⟨S64x8, .i64⟩
  | 95 => ⟨S_, .i64⟩
  | 96 => ⟨S64x8, .i64⟩
  | 97 => ⟨S64x8, .i64⟩
  | 98 => ⟨S64x8, .i64⟩
  | 99 => ⟨S_, .i64⟩
  | 100 => ⟨S64x8, .i64⟩
  | 101 => ⟨S64x8, .i64⟩
  | 102 => ⟨S64x8, .i32⟩
  | 103 => ⟨S64x8, .i32⟩
  | 104 => ⟨S_, .i32⟩
  | 105 => ⟨S_, .i32⟩
  | 106 => ⟨S_, .i32⟩
  | 107 => ⟨S64x8, .i32⟩
  | 108 => ⟨S64x8, .i32⟩
  | 109 => ⟨S64x8, .i32⟩
  | 110 => ⟨S64x8, .i32⟩
  | 111 => ⟨S64x8, .i32⟩
  | 112 => ⟨S_, .i32⟩
  | 113 => ⟨S64x8, .i32⟩
  | 114 => ⟨S64x8, .i32⟩
  | 115 => ⟨S_, .i32⟩
  | 116 => ⟨S64x8, .i32⟩
  | 117 => ⟨S64x8, .i32⟩
  | 118 => ⟨S64x8, .i32⟩
  | 119 => ⟨S64x8, .i32⟩
  | 120 => ⟨S64x8, .i32⟩
  | 121 => ⟨S_, .i32⟩
  | 122 => ⟨S64x8, .i32⟩
  | 123 => ⟨S64x8, .i32⟩
  | 124 => ⟨S_, .i32⟩
  | 125 => ⟨S64x8, .i32⟩
  | 126 => ⟨S64x8, .i32⟩
  | 127 => ⟨S64x8, .i32⟩
  | _ => ⟨S64x2048x256, .f32⟩

abbrev hbmTy0_1 (i : Nat) : BufTy := match i % 128 with
  | 0 => ⟨S64x8, .i32⟩
  | 1 => ⟨S64x8, .i32⟩
  | 2 => ⟨S_, .i32⟩
  | 3 => ⟨S64x8, .i32⟩
  | 4 => ⟨S64x8, .i32⟩
  | 5 => ⟨S_, .i32⟩
  | 6 => ⟨S64x8, .i32⟩
  | 7 => ⟨S64x8, .i32⟩
  | 8 => ⟨S64x8, .i32⟩
  | 9 => ⟨S64x8, .i32⟩
  | 10 => ⟨S64x8, .i32⟩
  | 11 => ⟨S_, .i32⟩
  | 12 => ⟨S64x8, .i32⟩
  | 13 => ⟨S64x8, .i32⟩
  | 14 => ⟨S_, .i32⟩
  | 15 => ⟨S64x8, .i32⟩
  | 16 => ⟨S64x8, .i32⟩
  | 17 => ⟨S64x8, .i32⟩
  | 18 => ⟨S64x8, .i32⟩
  | 19 => ⟨S64x8, .i32⟩
  | 20 => ⟨S64x8, .i32⟩
  | 21 => ⟨S64x8, .i32⟩
  | 22 => ⟨S64x8, .i32⟩
  | 23 => ⟨S_, .i32⟩
  | 24 => ⟨S64x8, .i32⟩
  | 25 => ⟨S64x8, .i32⟩
  | 26 => ⟨S64x8, .i32⟩
  | 27 => ⟨S_, .i32⟩
  | 28 => ⟨S64x8, .i32⟩
  | 29 => ⟨S64x8, .i32⟩
  | 30 => ⟨S_, .i32⟩
  | 31 => ⟨S64x8, .i32⟩
  | 32 => ⟨S64x8, .i32⟩
  | 33 => ⟨S64x8, .i32⟩
  | 34 => ⟨S64x8, .i32⟩
  | 35 => ⟨S64x8, .i32⟩
  | 36 => ⟨S_, .i32⟩
  | 37 => ⟨S64x8, .i32⟩
  | 38 => ⟨S64x8, .i32⟩
  | 39 => ⟨S_, .i32⟩
  | 40 => ⟨S64x8, .i32⟩
  | 41 => ⟨S64x8, .i32⟩
  | 42 => ⟨S64x8, .i32⟩
  | 43 => ⟨S64x8, .i32⟩
  | 44 => ⟨S64x8, .i32⟩
  | 45 => ⟨S_, .i32⟩
  | 46 => ⟨S64x8, .i32⟩
  | 47 => ⟨S64x8, .i32⟩
  | 48 => ⟨S_, .i32⟩
  | 49 => ⟨S64x8, .i32⟩
  | 50 => ⟨S64x8, .i32⟩
  | 51 => ⟨S64x8, .i32⟩
  | 52 => ⟨S64x8, .i32⟩
  | 53 => ⟨S64x8, .i32⟩
  | 54 => ⟨S_, .i32⟩
  | 55 => ⟨S64x8, .i32⟩
  | 56 => ⟨S64x8, .i32⟩
  | 57 => ⟨S_, .i32⟩
  | 58 => ⟨S64x8, .i32⟩
  | 59 => ⟨S64x8, .i32⟩
  | 60 => ⟨S64x8, .i32⟩
  | 61 => ⟨S64x8, .i32⟩
  | 62 => ⟨S64x8, .i32⟩
  | 63 => ⟨S64x8, .i32⟩
  | 64 => ⟨S64x8, .i32⟩
  | 65 => ⟨S64x8, .i32⟩
  | 66 => ⟨S_, .i32⟩
  | 67 => ⟨S64x8, .i32⟩
  | 68 => ⟨S64x8, .i32⟩
  | 69 => ⟨S64x8, .i32⟩
  | 70 => ⟨S_, .i32⟩
  | 71 => ⟨S64x8, .i32⟩
  | 72 => ⟨S64x8, .i32⟩
  | 73 => ⟨S_, .i32⟩
  | 74 => ⟨S64x8, .i32⟩
  | 75 => ⟨S64x8, .i32⟩
  | 76 => ⟨S64x8, .i32⟩
  | 77 => ⟨S64x8, .i32⟩
  | 78 => ⟨S64x8, .i32⟩
  | 79 => ⟨S_, .i32⟩
  | 80 => ⟨S64x8, .i32⟩
  | 81 => ⟨S64x8, .i32⟩
  | 82 => ⟨S_, .i32⟩
  | 83 => ⟨S64x8, .i32⟩
  | 84 => ⟨S64x8, .i32⟩
  | 85 => ⟨S64x8, .i32⟩
  | 86 => ⟨S64x8, .i32⟩
  | 87 => ⟨S64x8, .i32⟩
  | 88 => ⟨S_, .i32⟩
  | 89 => ⟨S64x8, .i32⟩
  | 90 => ⟨S64x8, .i32⟩
  | 91 => ⟨S_, .i32⟩
  | 92 => ⟨S64x8, .i32⟩
  | 93 => ⟨S64x8, .i32⟩
  | 94 => ⟨S64x8, .i32⟩
  | 95 => ⟨S64x8, .i32⟩
  | 96 => ⟨S64x8, .i32⟩
  | 97 => ⟨S_, .i32⟩
  | 98 => ⟨S64x8, .i32⟩
  | 99 => ⟨S64x8, .i32⟩
  | 100 => ⟨S_, .i32⟩
  | 101 => ⟨S64x8, .i32⟩
  | 102 => ⟨S64x8, .i32⟩
  | 103 => ⟨S64x8, .i32⟩
  | 104 => ⟨S64x8, .i32⟩
  | 105 => ⟨S64x8, .i32⟩
  | 106 => ⟨S64x8, .i32⟩
  | 107 => ⟨S64x8, .i32⟩
  | 108 => ⟨S64x8, .i32⟩
  | 109 => ⟨S_, .i32⟩
  | 110 => ⟨S64x8, .i32⟩
  | 111 => ⟨S64x8, .i32⟩
  | 112 => ⟨S64x8, .i32⟩
  | 113 => ⟨S_, .i32⟩
  | 114 => ⟨S64x8, .i32⟩
  | 115 => ⟨S64x8, .i32⟩
  | 116 => ⟨S_, .i32⟩
  | 117 => ⟨S64x8, .i32⟩
  | 118 => ⟨S64x8, .i32⟩
  | 119 => ⟨S64x8, .i32⟩
  | 120 => ⟨S64x8, .i32⟩
  | 121 => ⟨S64x8, .i32⟩
  | 122 => ⟨S_, .i32⟩
  | 123 => ⟨S64x8, .i32⟩
  | 124 => ⟨S64x8, .i32⟩
  | 125 => ⟨S_, .i32⟩
  | 126 => ⟨S64x8, .i32⟩
  | 127 => ⟨S64x8, .i32⟩
  | _ => ⟨S64x2048x256, .f32⟩

abbrev hbmTy0_2 (i : Nat) : BufTy := match i % 128 with
  | 0 => ⟨S64x8, .i32⟩
  | 1 => ⟨S64x8, .i32⟩
  | 2 => ⟨S64x8, .i32⟩
  | 3 => ⟨S_, .i32⟩
  | 4 => ⟨S64x8, .i32⟩
  | 5 => ⟨S64x8, .i32⟩
  | 6 => ⟨S_, .i32⟩
  | 7 => ⟨S64x8, .i32⟩
  | 8 => ⟨S64x8, .i32⟩
  | 9 => ⟨S64x8, .i32⟩
  | 10 => ⟨S64x8, .i32⟩
  | 11 => ⟨S64x8, .i32⟩
  | 12 => ⟨S_, .i32⟩
  | 13 => ⟨S64x8, .i32⟩
  | 14 => ⟨S64x8, .i32⟩
  | 15 => ⟨S_, .i32⟩
  | 16 => ⟨S64x8, .i32⟩
  | 17 => ⟨S64x8, .i32⟩
  | 18 => ⟨S64x8, .i32⟩
  | 19 => ⟨S64x8, .i32⟩
  | 20 => ⟨S64x8, .i32⟩
  | 21 => ⟨S64x8, .i32⟩
  | 22 => ⟨S64x8, .i32⟩
  | 23 => ⟨S64x8, .i32⟩
  | 24 => ⟨S_, .i32⟩
  | 25 => ⟨S64x8, .i32⟩
  | 26 => ⟨S64x8, .i32⟩
  | 27 => ⟨S64x8, .i32⟩
  | 28 => ⟨S_, .i32⟩
  | 29 => ⟨S64x8, .i32⟩
  | 30 => ⟨S64x8, .i32⟩
  | 31 => ⟨S_, .i32⟩
  | 32 => ⟨S64x8, .i32⟩
  | 33 => ⟨S64x8, .i32⟩
  | 34 => ⟨S64x8, .i32⟩
  | 35 => ⟨S64x8, .i32⟩
  | 36 => ⟨S64x8, .i32⟩
  | 37 => ⟨S_, .i32⟩
  | 38 => ⟨S64x8, .i32⟩
  | 39 => ⟨S64x8, .i32⟩
  | 40 => ⟨S_, .i32⟩
  | 41 => ⟨S64x8, .i32⟩
  | 42 => ⟨S64x8, .i32⟩
  | 43 => ⟨S64x8, .i32⟩
  | 44 => ⟨S64x8, .i32⟩
  | 45 => ⟨S64x8, .i32⟩
  | 46 => ⟨S_, .i32⟩
  | 47 => ⟨S64x8, .i32⟩
  | 48 => ⟨S64x8, .i32⟩
  | 49 => ⟨S_, .i32⟩
  | 50 => ⟨S64x8, .i32⟩
  | 51 => ⟨S64x8, .i32⟩
  | 52 => ⟨S64x8, .i32⟩
  | 53 => ⟨S64x8, .i32⟩
  | 54 => ⟨S64x8, .i32⟩
  | 55 => ⟨S_, .i32⟩
  | 56 => ⟨S64x8, .i32⟩
  | 57 => ⟨S64x8, .i32⟩
  | 58 => ⟨S_, .i32⟩
  | 59 => ⟨S64x8, .i32⟩
  | 60 => ⟨S64x8, .i32⟩
  | 61 => ⟨S64x8, .i32⟩
  | 62 => ⟨S64x8, .i32⟩
  | 63 => ⟨S64x8, .i32⟩
  | 64 => ⟨S64x8, .i32⟩
  | 65 => ⟨S64x8, .i32⟩
  | 66 => ⟨S64x8, .i32⟩
  | 67 => ⟨S_, .i32⟩
  | 68 => ⟨S64x8, .i32⟩
  | 69 => ⟨S64x8, .i32⟩
  | 70 => ⟨S64x8, .i32⟩
  | 71 => ⟨S_, .i32⟩
  | 72 => ⟨S64x8, .i32⟩
  | 73 => ⟨S64x8, .i32⟩
  | 74 => ⟨S_, .i32⟩
  | 75 => ⟨S64x8, .i32⟩
  | 76 => ⟨S64x8, .i32⟩
  | 77 => ⟨S64x8, .f32⟩
  | 78 => ⟨S_, .f32⟩
  | 79 => ⟨S64x8, .f32⟩
  | 80 => ⟨S64x8, .f32⟩
  | 81 => ⟨S1x1, .f32⟩
  | 82 => ⟨S64x8, .f32⟩
  | 83 => ⟨S64x8, .f32⟩
  | 84 => ⟨S64x8, .f32⟩
  | 85 => ⟨S64x8, .f32⟩
  | 86 => ⟨S64x8, .f32⟩
  | 87 => ⟨S64x8, .f32⟩
  | 88 => ⟨S64x8, .i32⟩
  | 89 => ⟨S64x8, .f32⟩
  | 90 => ⟨S64x8, .i32⟩
  | 91 => ⟨S64x6, .i32⟩
  | 92 => ⟨S64x1x6x1, .i32⟩
  | 93 => ⟨S64x2048x6x16, .i32⟩
  | 94 => ⟨S_, .i32⟩
  | 95 => ⟨S64x2048x6x16, .i32⟩
  | 96 => ⟨S64x2048x6x16, .i1⟩
  | 97 => ⟨S_, .i32⟩
  | 98 => ⟨S64x2048x6x16, .i32⟩
  | 99 => ⟨S64x2048x6x16, .i32⟩
  | 100 => ⟨S64x2048x6x16, .i32⟩
  | 101 => ⟨S64x2048x6x16x1, .i32⟩
  | 102 => ⟨S1, .i32⟩
  | 103 => ⟨S_, .i32⟩
  | 104 => ⟨S64x2048x6x16x1, .i32⟩
  | 105 => ⟨S64x2048x6x16x1, .i1⟩
  | 106 => ⟨S1x1x1x1x1, .i32⟩
  | 107 => ⟨S64x2048x6x16x1, .i32⟩
  | 108 => ⟨S64x2048x6x16x1, .i1⟩
  | 109 => ⟨S64x2048x6x16x1, .i1⟩
  | 110 => ⟨S_, .i1⟩
  | 111 => ⟨S64x2048x6x16, .i1⟩
  | 112 => ⟨S64x2048x6x16, .f32⟩
  | 113 => ⟨S_, .f32⟩
  | 114 => ⟨S64x2048x6x16, .f32⟩
  | 115 => ⟨S64x2048x6x16, .f32⟩
  | 116 => ⟨S64x8, .i32⟩
  | 117 => ⟨S64x8, .i32⟩
  | 118 => ⟨S64x8, .i32⟩
  | 119 => ⟨S_, .f32⟩
  | 120 => ⟨S64x2048x2x16, .f32⟩
  | 121 => ⟨S64x2048x8x16, .f32⟩
  | 122 => ⟨S64x1x8x1, .i32⟩
  | 123 => ⟨S64x2048x8x16, .i32⟩
  | 124 => ⟨S_, .i32⟩
  | 125 => ⟨S64x2048x8x16, .i32⟩
  | 126 => ⟨S64x2048x8x16, .i1⟩
  | 127 => ⟨S_, .i32⟩
  | _ => ⟨S64x2048x256, .f32⟩

abbrev hbmTy0_3 (i : Nat) : BufTy := match i % 128 with
  | 0 => ⟨S64x2048x8x16, .i32⟩
  | 1 => ⟨S64x2048x8x16, .i32⟩
  | 2 => ⟨S64x2048x8x16, .i32⟩
  | 3 => ⟨S64x2048x8x16x1, .i32⟩
  | 4 => ⟨S1, .i32⟩
  | 5 => ⟨S_, .i32⟩
  | 6 => ⟨S64x2048x8x16x1, .i32⟩
  | 7 => ⟨S64x2048x8x16x1, .i1⟩
  | 8 => ⟨S1x1x1x1x1, .i32⟩
  | 9 => ⟨S64x2048x8x16x1, .i32⟩
  | 10 => ⟨S64x2048x8x16x1, .i1⟩
  | 11 => ⟨S64x2048x8x16x1, .i1⟩
  | 12 => ⟨S_, .i1⟩
  | 13 => ⟨S64x2048x8x16, .i1⟩
  | 14 => ⟨S64x2048x8x16, .f32⟩
  | 15 => ⟨S_, .f32⟩
  | 16 => ⟨S64x2048x8x16, .f32⟩
  | 17 => ⟨S64x2048x8x16, .f32⟩
  | 18 => ⟨S64x2048x128, .f32⟩
  | 19 => ⟨S64x2048x256, .f32⟩
  | 20 => ⟨S1x1x256, .f32⟩
  | 21 => ⟨S64x2048x256, .f32⟩
  | 22 => ⟨S64x2048x256, .f32⟩
  | 23 => ⟨S64x2048x160, .f32⟩
  | 24 => ⟨S1x1x160, .f32⟩
  | 25 => ⟨S64x2048x160, .f32⟩
  | 26 => ⟨S64x2048x160, .f32⟩
  | _ => ⟨S64x2048x256, .f32⟩

abbrev hbmTy (i : Nat) : BufTy := match i / 128 with
  | 0 => hbmTy0_0 i
  | 1 => hbmTy0_1 i
  | 2 => hbmTy0_2 i
  | 3 => hbmTy0_3 i
  | _ => ⟨S64x2048x256, .f32⟩

abbrev bufTy : (tb : Table) → Fin (tcTables nBuf tb) → BufTy
  | .hbm, ⟨i, _⟩ => hbmTy i
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_call0_c : Ref sig .tc := ⟨.hbm, 18, rfl⟩
abbrev main_call0_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_2 : Ref sig .tc := ⟨.hbm, 70, rfl⟩
abbrev main_c_3 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst : Ref sig .tc := ⟨.hbm, 80, rfl⟩
abbrev main_cst_5 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_c : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_c_1 : Ref sig .tc := ⟨.hbm, 99, rfl⟩
abbrev main_call3_v15 : Ref sig .tc := ⟨.hbm, 100, rfl⟩
abbrev main_call3_v16 : Ref sig .tc := ⟨.hbm, 101, rfl⟩
abbrev main_call3_v17 : Ref sig .tc := ⟨.hbm, 102, rfl⟩
abbrev main_call3_v18 : Ref sig .tc := ⟨.hbm, 103, rfl⟩
abbrev main_call3_call0_v0 : Ref sig .tc := ⟨.hbm, 104, rfl⟩
abbrev main_call3_call0_c : Ref sig .tc := ⟨.hbm, 105, rfl⟩
abbrev main_call3_call0_v1 : Ref sig .tc := ⟨.hbm, 106, rfl⟩
abbrev main_call3_call0_v2 : Ref sig .tc := ⟨.hbm, 107, rfl⟩
abbrev main_call3_call0_v3 : Ref sig .tc := ⟨.hbm, 108, rfl⟩
abbrev main_call3_call0_v4 : Ref sig .tc := ⟨.hbm, 109, rfl⟩
abbrev main_call3_call0_v5 : Ref sig .tc := ⟨.hbm, 110, rfl⟩
abbrev main_call3_call0_v6 : Ref sig .tc := ⟨.hbm, 111, rfl⟩
abbrev main_call3_call0_c_0 : Ref sig .tc := ⟨.hbm, 112, rfl⟩
abbrev main_call3_call0_v7 : Ref sig .tc := ⟨.hbm, 113, rfl⟩
abbrev main_call3_call0_v8 : Ref sig .tc := ⟨.hbm, 114, rfl⟩
abbrev main_call3_call0_c_1 : Ref sig .tc := ⟨.hbm, 115, rfl⟩
abbrev main_call3_call0_v9 : Ref sig .tc := ⟨.hbm, 116, rfl⟩
abbrev main_call3_call0_v10 : Ref sig .tc := ⟨.hbm, 117, rfl⟩
abbrev main_call3_call0_v11 : Ref sig .tc := ⟨.hbm, 118, rfl⟩
abbrev main_call3_call0_v12 : Ref sig .tc := ⟨.hbm, 119, rfl⟩
abbrev main_call3_call0_v13 : Ref sig .tc := ⟨.hbm, 120, rfl⟩
abbrev main_call3_call0_c_2 : Ref sig .tc := ⟨.hbm, 121, rfl⟩
abbrev main_call3_call0_v14 : Ref sig .tc := ⟨.hbm, 122, rfl⟩
abbrev main_call3_call0_v15 : Ref sig .tc := ⟨.hbm, 123, rfl⟩
abbrev main_call3_call0_c_3 : Ref sig .tc := ⟨.hbm, 124, rfl⟩
abbrev main_call3_call0_v16 : Ref sig .tc := ⟨.hbm, 125, rfl⟩
abbrev main_call3_call0_v17 : Ref sig .tc := ⟨.hbm, 126, rfl⟩
abbrev main_call3_call0_v18 : Ref sig .tc := ⟨.hbm, 127, rfl⟩
abbrev main_call3_call0_v19 : Ref sig .tc := ⟨.hbm, 128, rfl⟩
abbrev main_call3_call0_v20 : Ref sig .tc := ⟨.hbm, 129, rfl⟩
abbrev main_call3_call0_c_4 : Ref sig .tc := ⟨.hbm, 130, rfl⟩
abbrev main_call3_call0_v21 : Ref sig .tc := ⟨.hbm, 131, rfl⟩
abbrev main_call3_call0_v22 : Ref sig .tc := ⟨.hbm, 132, rfl⟩
abbrev main_call3_call0_c_5 : Ref sig .tc := ⟨.hbm, 133, rfl⟩
abbrev main_call3_call0_v23 : Ref sig .tc := ⟨.hbm, 134, rfl⟩
abbrev main_call3_call0_v24 : Ref sig .tc := ⟨.hbm, 135, rfl⟩
abbrev main_call3_call0_v25 : Ref sig .tc := ⟨.hbm, 136, rfl⟩
abbrev main_call3_call0_v26 : Ref sig .tc := ⟨.hbm, 137, rfl⟩
abbrev main_call3_call0_v27 : Ref sig .tc := ⟨.hbm, 138, rfl⟩
abbrev main_call3_call0_c_6 : Ref sig .tc := ⟨.hbm, 139, rfl⟩
abbrev main_call3_call0_v28 : Ref sig .tc := ⟨.hbm, 140, rfl⟩
abbrev main_call3_call0_v29 : Ref sig .tc := ⟨.hbm, 141, rfl⟩
abbrev main_call3_call0_c_7 : Ref sig .tc := ⟨.hbm, 142, rfl⟩
abbrev main_call3_call0_v30 : Ref sig .tc := ⟨.hbm, 143, rfl⟩
abbrev main_call3_call0_v31 : Ref sig .tc := ⟨.hbm, 144, rfl⟩
abbrev main_call3_call0_v32 : Ref sig .tc := ⟨.hbm, 145, rfl⟩
abbrev main_call3_call0_v33 : Ref sig .tc := ⟨.hbm, 146, rfl⟩
abbrev main_call3_call0_v34 : Ref sig .tc := ⟨.hbm, 147, rfl⟩
abbrev main_call3_call0_v35 : Ref sig .tc := ⟨.hbm, 148, rfl⟩
abbrev main_call3_call0_v36 : Ref sig .tc := ⟨.hbm, 149, rfl⟩
abbrev main_call3_call0_v37 : Ref sig .tc := ⟨.hbm, 150, rfl⟩
abbrev main_call3_call0_c_8 : Ref sig .tc := ⟨.hbm, 151, rfl⟩
abbrev main_call3_call0_v38 : Ref sig .tc := ⟨.hbm, 152, rfl⟩
abbrev main_call3_call0_v39 : Ref sig .tc := ⟨.hbm, 153, rfl⟩
abbrev main_call3_call0_v40 : Ref sig .tc := ⟨.hbm, 154, rfl⟩
abbrev main_call3_call0_c_9 : Ref sig .tc := ⟨.hbm, 155, rfl⟩
abbrev main_call3_call0_v41 : Ref sig .tc := ⟨.hbm, 156, rfl⟩
abbrev main_call3_call0_v42 : Ref sig .tc := ⟨.hbm, 157, rfl⟩
abbrev main_call3_call0_c_10 : Ref sig .tc := ⟨.hbm, 158, rfl⟩
abbrev main_call3_call0_v43 : Ref sig .tc := ⟨.hbm, 159, rfl⟩
abbrev main_call3_call0_v44 : Ref sig .tc := ⟨.hbm, 160, rfl⟩
abbrev main_call3_call0_v45 : Ref sig .tc := ⟨.hbm, 161, rfl⟩
abbrev main_call3_call0_v46 : Ref sig .tc := ⟨.hbm, 162, rfl⟩
abbrev main_call3_call0_v47 : Ref sig .tc := ⟨.hbm, 163, rfl⟩
abbrev main_call3_call0_c_11 : Ref sig .tc := ⟨.hbm, 164, rfl⟩
abbrev main_call3_call0_v48 : Ref sig .tc := ⟨.hbm, 165, rfl⟩
abbrev main_call3_call0_v49 : Ref sig .tc := ⟨.hbm, 166, rfl⟩
abbrev main_call3_call0_c_12 : Ref sig .tc := ⟨.hbm, 167, rfl⟩
abbrev main_call3_call0_v50 : Ref sig .tc := ⟨.hbm, 168, rfl⟩
abbrev main_call3_call0_v51 : Ref sig .tc := ⟨.hbm, 169, rfl⟩
abbrev main_call3_call0_v52 : Ref sig .tc := ⟨.hbm, 170, rfl⟩
abbrev main_call3_call0_v53 : Ref sig .tc := ⟨.hbm, 171, rfl⟩
abbrev main_call3_call0_v54 : Ref sig .tc := ⟨.hbm, 172, rfl⟩
abbrev main_call3_call0_c_13 : Ref sig .tc := ⟨.hbm, 173, rfl⟩
abbrev main_call3_call0_v55 : Ref sig .tc := ⟨.hbm, 174, rfl⟩
abbrev main_call3_call0_v56 : Ref sig .tc := ⟨.hbm, 175, rfl⟩
abbrev main_call3_call0_c_14 : Ref sig .tc := ⟨.hbm, 176, rfl⟩
abbrev main_call3_call0_v57 : Ref sig .tc := ⟨.hbm, 177, rfl⟩
abbrev main_call3_call0_v58 : Ref sig .tc := ⟨.hbm, 178, rfl⟩
abbrev main_call3_call0_v59 : Ref sig .tc := ⟨.hbm, 179, rfl⟩
abbrev main_call3_call0_v60 : Ref sig .tc := ⟨.hbm, 180, rfl⟩
abbrev main_call3_call0_v61 : Ref sig .tc := ⟨.hbm, 181, rfl⟩
abbrev main_call3_call0_c_15 : Ref sig .tc := ⟨.hbm, 182, rfl⟩
abbrev main_call3_call0_v62 : Ref sig .tc := ⟨.hbm, 183, rfl⟩
abbrev main_call3_call0_v63 : Ref sig .tc := ⟨.hbm, 184, rfl⟩
abbrev main_call3_call0_c_16 : Ref sig .tc := ⟨.hbm, 185, rfl⟩
abbrev main_call3_call0_v64 : Ref sig .tc := ⟨.hbm, 186, rfl⟩
abbrev main_call3_call0_v65 : Ref sig .tc := ⟨.hbm, 187, rfl⟩
abbrev main_call3_call0_v66 : Ref sig .tc := ⟨.hbm, 188, rfl⟩
abbrev main_call3_call0_v67 : Ref sig .tc := ⟨.hbm, 189, rfl⟩
abbrev main_call3_call0_v68 : Ref sig .tc := ⟨.hbm, 190, rfl⟩
abbrev main_call3_call0_v69 : Ref sig .tc := ⟨.hbm, 191, rfl⟩
abbrev main_call3_call0_v70 : Ref sig .tc := ⟨.hbm, 192, rfl⟩
abbrev main_call3_call0_v71 : Ref sig .tc := ⟨.hbm, 193, rfl⟩
abbrev main_call3_call0_c_17 : Ref sig .tc := ⟨.hbm, 194, rfl⟩
abbrev main_call3_call0_v72 : Ref sig .tc := ⟨.hbm, 195, rfl⟩
abbrev main_call3_call0_v73 : Ref sig .tc := ⟨.hbm, 196, rfl⟩
abbrev main_call3_call0_v74 : Ref sig .tc := ⟨.hbm, 197, rfl⟩
abbrev main_call3_call0_c_18 : Ref sig .tc := ⟨.hbm, 198, rfl⟩
abbrev main_call3_call0_v75 : Ref sig .tc := ⟨.hbm, 199, rfl⟩
abbrev main_call3_call0_v76 : Ref sig .tc := ⟨.hbm, 200, rfl⟩
abbrev main_call3_call0_c_19 : Ref sig .tc := ⟨.hbm, 201, rfl⟩
abbrev main_call3_call0_v77 : Ref sig .tc := ⟨.hbm, 202, rfl⟩
abbrev main_call3_call0_v78 : Ref sig .tc := ⟨.hbm, 203, rfl⟩
abbrev main_call3_call0_v79 : Ref sig .tc := ⟨.hbm, 204, rfl⟩
abbrev main_call3_call0_v80 : Ref sig .tc := ⟨.hbm, 205, rfl⟩
abbrev main_call3_call0_v81 : Ref sig .tc := ⟨.hbm, 206, rfl⟩
abbrev main_call3_call0_c_20 : Ref sig .tc := ⟨.hbm, 207, rfl⟩
abbrev main_call3_call0_v82 : Ref sig .tc := ⟨.hbm, 208, rfl⟩
abbrev main_call3_call0_v83 : Ref sig .tc := ⟨.hbm, 209, rfl⟩
abbrev main_call3_call0_c_21 : Ref sig .tc := ⟨.hbm, 210, rfl⟩
abbrev main_call3_call0_v84 : Ref sig .tc := ⟨.hbm, 211, rfl⟩
abbrev main_call3_call0_v85 : Ref sig .tc := ⟨.hbm, 212, rfl⟩
abbrev main_call3_call0_v86 : Ref sig .tc := ⟨.hbm, 213, rfl⟩
abbrev main_call3_call0_v87 : Ref sig .tc := ⟨.hbm, 214, rfl⟩
abbrev main_call3_call0_v88 : Ref sig .tc := ⟨.hbm, 215, rfl⟩
abbrev main_call3_call0_c_22 : Ref sig .tc := ⟨.hbm, 216, rfl⟩
abbrev main_call3_call0_v89 : Ref sig .tc := ⟨.hbm, 217, rfl⟩
abbrev main_call3_call0_v90 : Ref sig .tc := ⟨.hbm, 218, rfl⟩
abbrev main_call3_call0_c_23 : Ref sig .tc := ⟨.hbm, 219, rfl⟩
abbrev main_call3_call0_v91 : Ref sig .tc := ⟨.hbm, 220, rfl⟩
abbrev main_call3_call0_v92 : Ref sig .tc := ⟨.hbm, 221, rfl⟩
abbrev main_call3_call0_v93 : Ref sig .tc := ⟨.hbm, 222, rfl⟩
abbrev main_call3_call0_v94 : Ref sig .tc := ⟨.hbm, 223, rfl⟩
abbrev main_call3_call0_v95 : Ref sig .tc := ⟨.hbm, 224, rfl⟩
abbrev main_call3_call0_c_24 : Ref sig .tc := ⟨.hbm, 225, rfl⟩
abbrev main_call3_call0_v96 : Ref sig .tc := ⟨.hbm, 226, rfl⟩
abbrev main_call3_call0_v97 : Ref sig .tc := ⟨.hbm, 227, rfl⟩
abbrev main_call3_call0_c_25 : Ref sig .tc := ⟨.hbm, 228, rfl⟩
abbrev main_call3_call0_v98 : Ref sig .tc := ⟨.hbm, 229, rfl⟩
abbrev main_call3_call0_v99 : Ref sig .tc := ⟨.hbm, 230, rfl⟩
abbrev main_call3_call0_v100 : Ref sig .tc := ⟨.hbm, 231, rfl⟩
abbrev main_call3_call0_v101 : Ref sig .tc := ⟨.hbm, 232, rfl⟩
abbrev main_call3_call0_v102 : Ref sig .tc := ⟨.hbm, 233, rfl⟩
abbrev main_call3_call0_v103 : Ref sig .tc := ⟨.hbm, 234, rfl⟩
abbrev main_call3_call0_v104 : Ref sig .tc := ⟨.hbm, 235, rfl⟩
abbrev main_call3_call0_v105 : Ref sig .tc := ⟨.hbm, 236, rfl⟩
abbrev main_call3_call0_c_26 : Ref sig .tc := ⟨.hbm, 237, rfl⟩
abbrev main_call3_call0_v106 : Ref sig .tc := ⟨.hbm, 238, rfl⟩
abbrev main_call3_call0_v107 : Ref sig .tc := ⟨.hbm, 239, rfl⟩
abbrev main_call3_call0_v108 : Ref sig .tc := ⟨.hbm, 240, rfl⟩
abbrev main_call3_call0_c_27 : Ref sig .tc := ⟨.hbm, 241, rfl⟩
abbrev main_call3_call0_v109 : Ref sig .tc := ⟨.hbm, 242, rfl⟩
abbrev main_call3_call0_v110 : Ref sig .tc := ⟨.hbm, 243, rfl⟩
abbrev main_call3_call0_c_28 : Ref sig .tc := ⟨.hbm, 244, rfl⟩
abbrev main_call3_call0_v111 : Ref sig .tc := ⟨.hbm, 245, rfl⟩
abbrev main_call3_call0_v112 : Ref sig .tc := ⟨.hbm, 246, rfl⟩
abbrev main_call3_call0_v113 : Ref sig .tc := ⟨.hbm, 247, rfl⟩
abbrev main_call3_call0_v114 : Ref sig .tc := ⟨.hbm, 248, rfl⟩
abbrev main_call3_call0_v115 : Ref sig .tc := ⟨.hbm, 249, rfl⟩
abbrev main_call3_call0_c_29 : Ref sig .tc := ⟨.hbm, 250, rfl⟩
abbrev main_call3_call0_v116 : Ref sig .tc := ⟨.hbm, 251, rfl⟩
abbrev main_call3_call0_v117 : Ref sig .tc := ⟨.hbm, 252, rfl⟩
abbrev main_call3_call0_c_30 : Ref sig .tc := ⟨.hbm, 253, rfl⟩
abbrev main_call3_call0_v118 : Ref sig .tc := ⟨.hbm, 254, rfl⟩
abbrev main_call3_call0_v119 : Ref sig .tc := ⟨.hbm, 255, rfl⟩
abbrev main_call3_call0_v120 : Ref sig .tc := ⟨.hbm, 256, rfl⟩
abbrev main_call3_call0_v121 : Ref sig .tc := ⟨.hbm, 257, rfl⟩
abbrev main_call3_call0_v122 : Ref sig .tc := ⟨.hbm, 258, rfl⟩
abbrev main_call3_call0_c_31 : Ref sig .tc := ⟨.hbm, 259, rfl⟩
abbrev main_call3_call0_v123 : Ref sig .tc := ⟨.hbm, 260, rfl⟩
abbrev main_call3_call0_v124 : Ref sig .tc := ⟨.hbm, 261, rfl⟩
abbrev main_call3_call0_c_32 : Ref sig .tc := ⟨.hbm, 262, rfl⟩
abbrev main_call3_call0_v125 : Ref sig .tc := ⟨.hbm, 263, rfl⟩
abbrev main_call3_call0_v126 : Ref sig .tc := ⟨.hbm, 264, rfl⟩
abbrev main_call3_call0_v127 : Ref sig .tc := ⟨.hbm, 265, rfl⟩
abbrev main_call3_call0_v128 : Ref sig .tc := ⟨.hbm, 266, rfl⟩
abbrev main_call3_call0_v129 : Ref sig .tc := ⟨.hbm, 267, rfl⟩
abbrev main_call3_call0_c_33 : Ref sig .tc := ⟨.hbm, 268, rfl⟩
abbrev main_call3_call0_v130 : Ref sig .tc := ⟨.hbm, 269, rfl⟩
abbrev main_call3_call0_v131 : Ref sig .tc := ⟨.hbm, 270, rfl⟩
abbrev main_call3_call0_c_34 : Ref sig .tc := ⟨.hbm, 271, rfl⟩
abbrev main_call3_call0_v132 : Ref sig .tc := ⟨.hbm, 272, rfl⟩
abbrev main_call3_call0_v133 : Ref sig .tc := ⟨.hbm, 273, rfl⟩
abbrev main_call3_call0_v134 : Ref sig .tc := ⟨.hbm, 274, rfl⟩
abbrev main_call3_call0_v135 : Ref sig .tc := ⟨.hbm, 275, rfl⟩
abbrev main_call3_call0_v136 : Ref sig .tc := ⟨.hbm, 276, rfl⟩
abbrev main_call3_call0_v137 : Ref sig .tc := ⟨.hbm, 277, rfl⟩
abbrev main_call3_call0_v138 : Ref sig .tc := ⟨.hbm, 278, rfl⟩
abbrev main_call3_call0_v139 : Ref sig .tc := ⟨.hbm, 279, rfl⟩
abbrev main_call3_call0_c_35 : Ref sig .tc := ⟨.hbm, 280, rfl⟩
abbrev main_call3_call0_v140 : Ref sig .tc := ⟨.hbm, 281, rfl⟩
abbrev main_call3_call0_v141 : Ref sig .tc := ⟨.hbm, 282, rfl⟩
abbrev main_call3_call0_v142 : Ref sig .tc := ⟨.hbm, 283, rfl⟩
abbrev main_call3_call0_c_36 : Ref sig .tc := ⟨.hbm, 284, rfl⟩
abbrev main_call3_call0_v143 : Ref sig .tc := ⟨.hbm, 285, rfl⟩
abbrev main_call3_call0_v144 : Ref sig .tc := ⟨.hbm, 286, rfl⟩
abbrev main_call3_call0_c_37 : Ref sig .tc := ⟨.hbm, 287, rfl⟩
abbrev main_call3_call0_v145 : Ref sig .tc := ⟨.hbm, 288, rfl⟩
abbrev main_call3_call0_v146 : Ref sig .tc := ⟨.hbm, 289, rfl⟩
abbrev main_call3_call0_v147 : Ref sig .tc := ⟨.hbm, 290, rfl⟩
abbrev main_call3_call0_v148 : Ref sig .tc := ⟨.hbm, 291, rfl⟩
abbrev main_call3_call0_v149 : Ref sig .tc := ⟨.hbm, 292, rfl⟩
abbrev main_call3_call0_c_38 : Ref sig .tc := ⟨.hbm, 293, rfl⟩
abbrev main_call3_call0_v150 : Ref sig .tc := ⟨.hbm, 294, rfl⟩
abbrev main_call3_call0_v151 : Ref sig .tc := ⟨.hbm, 295, rfl⟩
abbrev main_call3_call0_c_39 : Ref sig .tc := ⟨.hbm, 296, rfl⟩
abbrev main_call3_call0_v152 : Ref sig .tc := ⟨.hbm, 297, rfl⟩
abbrev main_call3_call0_v153 : Ref sig .tc := ⟨.hbm, 298, rfl⟩
abbrev main_call3_call0_v154 : Ref sig .tc := ⟨.hbm, 299, rfl⟩
abbrev main_call3_call0_v155 : Ref sig .tc := ⟨.hbm, 300, rfl⟩
abbrev main_call3_call0_v156 : Ref sig .tc := ⟨.hbm, 301, rfl⟩
abbrev main_call3_call0_c_40 : Ref sig .tc := ⟨.hbm, 302, rfl⟩
abbrev main_call3_call0_v157 : Ref sig .tc := ⟨.hbm, 303, rfl⟩
abbrev main_call3_call0_v158 : Ref sig .tc := ⟨.hbm, 304, rfl⟩
abbrev main_call3_call0_c_41 : Ref sig .tc := ⟨.hbm, 305, rfl⟩
abbrev main_call3_call0_v159 : Ref sig .tc := ⟨.hbm, 306, rfl⟩
abbrev main_call3_call0_v160 : Ref sig .tc := ⟨.hbm, 307, rfl⟩
abbrev main_call3_call0_v161 : Ref sig .tc := ⟨.hbm, 308, rfl⟩
abbrev main_call3_call0_v162 : Ref sig .tc := ⟨.hbm, 309, rfl⟩
abbrev main_call3_call0_v163 : Ref sig .tc := ⟨.hbm, 310, rfl⟩
abbrev main_call3_call0_c_42 : Ref sig .tc := ⟨.hbm, 311, rfl⟩
abbrev main_call3_call0_v164 : Ref sig .tc := ⟨.hbm, 312, rfl⟩
abbrev main_call3_call0_v165 : Ref sig .tc := ⟨.hbm, 313, rfl⟩
abbrev main_call3_call0_c_43 : Ref sig .tc := ⟨.hbm, 314, rfl⟩
abbrev main_call3_call0_v166 : Ref sig .tc := ⟨.hbm, 315, rfl⟩
abbrev main_call3_call0_v167 : Ref sig .tc := ⟨.hbm, 316, rfl⟩
abbrev main_call3_call0_v168 : Ref sig .tc := ⟨.hbm, 317, rfl⟩
abbrev main_call3_call0_v169 : Ref sig .tc := ⟨.hbm, 318, rfl⟩
abbrev main_call3_call0_v170 : Ref sig .tc := ⟨.hbm, 319, rfl⟩
abbrev main_call3_v19_0 : Ref sig .tc := ⟨.hbm, 320, rfl⟩
abbrev main_call3_call0_v172 : Ref sig .tc := ⟨.hbm, 321, rfl⟩
abbrev main_call3_call0_v173 : Ref sig .tc := ⟨.hbm, 322, rfl⟩
abbrev main_call3_call0_c_44 : Ref sig .tc := ⟨.hbm, 323, rfl⟩
abbrev main_call3_call0_v174 : Ref sig .tc := ⟨.hbm, 324, rfl⟩
abbrev main_call3_v19_1 : Ref sig .tc := ⟨.hbm, 325, rfl⟩
abbrev main_call3_v20 : Ref sig .tc := ⟨.hbm, 326, rfl⟩
abbrev main_call3_c_2 : Ref sig .tc := ⟨.hbm, 327, rfl⟩
abbrev main_call3_v21 : Ref sig .tc := ⟨.hbm, 328, rfl⟩
abbrev main_call3_v22 : Ref sig .tc := ⟨.hbm, 329, rfl⟩
abbrev main_call3_c_3 : Ref sig .tc := ⟨.hbm, 330, rfl⟩
abbrev main_call3_v23 : Ref sig .tc := ⟨.hbm, 331, rfl⟩
abbrev main_call3_v24 : Ref sig .tc := ⟨.hbm, 332, rfl⟩
abbrev main_call3_v25 : Ref sig .tc := ⟨.hbm, 333, rfl⟩
abbrev main_call3_cst : Ref sig .tc := ⟨.hbm, 334, rfl⟩
abbrev main_call3_v26 : Ref sig .tc := ⟨.hbm, 335, rfl⟩
abbrev main_call3_v27 : Ref sig .tc := ⟨.hbm, 336, rfl⟩
abbrev main_call3_v28 : Ref sig .tc := ⟨.hbm, 337, rfl⟩
abbrev main_call3_v29 : Ref sig .tc := ⟨.hbm, 338, rfl⟩
abbrev main_call3_v30 : Ref sig .tc := ⟨.hbm, 339, rfl⟩
abbrev main_call3_v31 : Ref sig .tc := ⟨.hbm, 340, rfl⟩
abbrev main_call3_v32 : Ref sig .tc := ⟨.hbm, 341, rfl⟩
abbrev main_call3_v33 : Ref sig .tc := ⟨.hbm, 342, rfl⟩
abbrev main_v38 : Ref sig .tc := ⟨.hbm, 343, rfl⟩
abbrev main_call4_v0 : Ref sig .tc := ⟨.hbm, 344, rfl⟩
abbrev main_call4_v1_0 : Ref sig .tc := ⟨.hbm, 345, rfl⟩
abbrev main_v39 : Ref sig .tc := ⟨.hbm, 346, rfl⟩
abbrev main_v40 : Ref sig .tc := ⟨.hbm, 347, rfl⟩
abbrev main_v41 : Ref sig .tc := ⟨.hbm, 348, rfl⟩
abbrev main_v42 : Ref sig .tc := ⟨.hbm, 349, rfl⟩
abbrev main_call5_c : Ref sig .tc := ⟨.hbm, 350, rfl⟩
abbrev main_call5_v0 : Ref sig .tc := ⟨.hbm, 351, rfl⟩
abbrev main_call5_v1 : Ref sig .tc := ⟨.hbm, 352, rfl⟩
abbrev main_call5_c_0 : Ref sig .tc := ⟨.hbm, 353, rfl⟩
abbrev main_call5_v2 : Ref sig .tc := ⟨.hbm, 354, rfl⟩
abbrev main_call5_v3 : Ref sig .tc := ⟨.hbm, 355, rfl⟩
abbrev main_call5_v4 : Ref sig .tc := ⟨.hbm, 356, rfl⟩
abbrev main_call5_v5 : Ref sig .tc := ⟨.hbm, 357, rfl⟩
abbrev main_call5_c_1 : Ref sig .tc := ⟨.hbm, 358, rfl⟩
abbrev main_call5_c_2 : Ref sig .tc := ⟨.hbm, 359, rfl⟩
abbrev main_call5_v6 : Ref sig .tc := ⟨.hbm, 360, rfl⟩
abbrev main_call5_v7 : Ref sig .tc := ⟨.hbm, 361, rfl⟩
abbrev main_call5_v8 : Ref sig .tc := ⟨.hbm, 362, rfl⟩
abbrev main_call5_v9 : Ref sig .tc := ⟨.hbm, 363, rfl⟩
abbrev main_call5_v10 : Ref sig .tc := ⟨.hbm, 364, rfl⟩
abbrev main_call5_v11 : Ref sig .tc := ⟨.hbm, 365, rfl⟩
abbrev main_call5_c_3 : Ref sig .tc := ⟨.hbm, 366, rfl⟩
abbrev main_call5_v12 : Ref sig .tc := ⟨.hbm, 367, rfl⟩
abbrev main_call5_v13 : Ref sig .tc := ⟨.hbm, 368, rfl⟩
abbrev main_call5_cst : Ref sig .tc := ⟨.hbm, 369, rfl⟩
abbrev main_call5_v14 : Ref sig .tc := ⟨.hbm, 370, rfl⟩
abbrev main_v43 : Ref sig .tc := ⟨.hbm, 371, rfl⟩
abbrev main_call6_v0 : Ref sig .tc := ⟨.hbm, 372, rfl⟩
abbrev main_call6_v1_0 : Ref sig .tc := ⟨.hbm, 373, rfl⟩
abbrev main_v44 : Ref sig .tc := ⟨.hbm, 374, rfl⟩
abbrev main_cst_6 : Ref sig .tc := ⟨.hbm, 375, rfl⟩
abbrev main_v45 : Ref sig .tc := ⟨.hbm, 376, rfl⟩
abbrev main_v46 : Ref sig .tc := ⟨.hbm, 377, rfl⟩
abbrev main_v47 : Ref sig .tc := ⟨.hbm, 378, rfl⟩
abbrev main_v48 : Ref sig .tc := ⟨.hbm, 379, rfl⟩
abbrev main_call7_c : Ref sig .tc := ⟨.hbm, 380, rfl⟩
abbrev main_call7_v0 : Ref sig .tc := ⟨.hbm, 381, rfl⟩
abbrev main_call7_v1 : Ref sig .tc := ⟨.hbm, 382, rfl⟩
abbrev main_call7_c_0 : Ref sig .tc := ⟨.hbm, 383, rfl⟩
abbrev main_call7_v2 : Ref sig .tc := ⟨.hbm, 384, rfl⟩
abbrev main_call7_v3 : Ref sig .tc := ⟨.hbm, 385, rfl⟩
abbrev main_call7_v4 : Ref sig .tc := ⟨.hbm, 386, rfl⟩
abbrev main_call7_v5 : Ref sig .tc := ⟨.hbm, 387, rfl⟩
abbrev main_call7_c_1 : Ref sig .tc := ⟨.hbm, 388, rfl⟩
abbrev main_call7_c_2 : Ref sig .tc := ⟨.hbm, 389, rfl⟩
abbrev main_call7_v6 : Ref sig .tc := ⟨.hbm, 390, rfl⟩
abbrev main_call7_v7 : Ref sig .tc := ⟨.hbm, 391, rfl⟩
abbrev main_call7_v8 : Ref sig .tc := ⟨.hbm, 392, rfl⟩
abbrev main_call7_v9 : Ref sig .tc := ⟨.hbm, 393, rfl⟩
abbrev main_call7_v10 : Ref sig .tc := ⟨.hbm, 394, rfl⟩
abbrev main_call7_v11 : Ref sig .tc := ⟨.hbm, 395, rfl⟩
abbrev main_call7_c_3 : Ref sig .tc := ⟨.hbm, 396, rfl⟩
abbrev main_call7_v12 : Ref sig .tc := ⟨.hbm, 397, rfl⟩
abbrev main_call7_v13 : Ref sig .tc := ⟨.hbm, 398, rfl⟩
abbrev main_call7_cst : Ref sig .tc := ⟨.hbm, 399, rfl⟩
abbrev main_call7_v14 : Ref sig .tc := ⟨.hbm, 400, rfl⟩
abbrev main_v49 : Ref sig .tc := ⟨.hbm, 401, rfl⟩
abbrev main_v50 : Ref sig .tc := ⟨.hbm, 402, rfl⟩
abbrev main_v51 : Ref sig .tc := ⟨.hbm, 403, rfl⟩
abbrev main_v52 : Ref sig .tc := ⟨.hbm, 404, rfl⟩
abbrev main_v53 : Ref sig .tc := ⟨.hbm, 405, rfl⟩
abbrev main_v54 : Ref sig .tc := ⟨.hbm, 406, rfl⟩
abbrev main_v55 : Ref sig .tc := ⟨.hbm, 407, rfl⟩
abbrev main_v56 : Ref sig .tc := ⟨.hbm, 408, rfl⟩
abbrev main_v57 : Ref sig .tc := ⟨.hbm, 409, rfl⟩
abbrev main_v58 : Ref sig .tc := ⟨.hbm, 410, rfl⟩

abbrev nD : Nat := 1
abbrev τ : Topo := Topo.v7x

variable {F : FTy → Type} [FloatOps F]
-- ==== Proof.RefRun.lean ====
/- The reference's run: its host operations read off @main in order, and what its buffers hold when it has run. -/
module

public import proofs.«01_k».proof.Defs
public import proofs.«01_k».proof.Proof.Gen.ReferenceIdeal
public import Idealize.ShloMosaic.Adequacy
public import Idealize.ShloMosaic.Lib.StableHlo.RunHlo

@[expose] public section

set_option maxRecDepth 16384

noncomputable section

namespace Cert.ReferenceIdeal.Hand

open Idealize.ShloMosaic Idealize.ShloMosaic.StableHlo Idealize.SL.Sem
open Cert.ReferenceIdeal

variable {nD' : Nat} {τ' : Topo} {sig' : RefSig} {Val : EltTy → Type} {Λ : Labels}

/-- Two straight lines, one after the other, are the straight line of both lists. -/
theorem isSeq_bind {p k : Prog (TpuEff nD' τ' sig' Val Λ .tc) PUnit} {l₁ l₂ : List (HloOp τ' sig' Val)}
    (hp : IsSeq p l₁) (hk : IsSeq k l₂) : IsSeq (p >>= fun _ => k) (l₁ ++ l₂) := by
  unfold IsSeq at hp hk ⊢
  rw [hp, hk, seq_append]

/-- Two straight lines, the last of which closes the function. -/
theorem isSeq_bind_pure {p : Prog (TpuEff nD' τ' sig' Val Λ .tc) PUnit} {l₁ : List (HloOp τ' sig' Val)}
    (hp : IsSeq p l₁) : IsSeq (p >>= fun _ => pure ⟨⟩) l₁ := by
  have h := isSeq_bind hp (IsSeq.nil (Λ := Λ))
  rwa [List.append_nil] at h

/-- One operation is the straight line of that operation. -/
theorem isSeq_last (op : HloOp τ' sig' Val) :
    IsSeq (nD := nD') (Λ := Λ) (hlo rfl op fun _ => .ret (⟨⟩ : PUnit)) [op] := rfl

variable {F : FTy → Type} [FloatOps F] [Facts]

/-- The operations of the running count's inner function. -/
abbrev cumsum0Ops (a : TRef sig ⟨S8x256, .i32⟩) (φ : fn_cumsum_0.Bufs) :
    { l : List (HloOp τ sig (Elt F)) // IsSeq (fn_cumsum_0.body (F := F) a φ) l } := by
  apply Subtype.mk
  unfold fn_cumsum_0.body
  repeat (first
    | with_reducible apply IsSeq.cons
    | with_reducible exact IsSeq.nil
    | with_reducible exact isSeq_last _)

/-- The operations of the running count. -/
abbrev cumsumOps (a : TRef sig ⟨S8x256, .i32⟩) (φ : fn_cumsum.Bufs) :
    { l : List (HloOp τ sig (Elt F)) // IsSeq (fn_cumsum.body (F := F) a φ) l } := by
  apply Subtype.mk
  unfold fn_cumsum.body
  repeat (first
    | with_reducible apply IsSeq.cons
    | with_reducible apply isSeq_bind
    | with_reducible exact (cumsum0Ops _ _).2
    | with_reducible exact IsSeq.nil
    | with_reducible exact isSeq_last _)

/-- The operations of the choice between a neuron's number and zero. -/
abbrev whereOps (p : TRef sig ⟨S8x32x256, .i1⟩) (a : TRef sig ⟨S1x1x256, .i32⟩) (z : TRef sig ⟨S_, .i32⟩) (φ : fn_where.Bufs) :
    { l : List (HloOp τ sig (Elt F)) // IsSeq (fn_where.body (F := F) p a z φ) l } := by
  apply Subtype.mk
  unfold fn_where.body
  repeat (first
    | with_reducible apply IsSeq.cons
    | with_reducible exact IsSeq.nil
    | with_reducible exact isSeq_last _)

/-- The operations of the choice inside the take. -/
abbrev where1Ops (p : TRef sig ⟨S8x32, .i1⟩) (a b : TRef sig ⟨S8x32, .i32⟩) (φ : fn_where_1.Bufs) :
    { l : List (HloOp τ sig (Elt F)) // IsSeq (fn_where_1.body (F := F) p a b φ) l } := by
  apply Subtype.mk
  unfold fn_where_1.body
  repeat (first
    | with_reducible apply IsSeq.cons
    | with_reducible exact IsSeq.nil
    | with_reducible exact isSeq_last _)

/-- The operations of the take of the spikes. -/
abbrev takeOps (x : TRef sig ⟨S64x2048x256, .f32⟩) (i : TRef sig ⟨S8x32, .i32⟩) (φ : fn_take.Bufs) :
    { l : List (HloOp τ sig (Elt F)) // IsSeq (fn_take.body (F := F) x i φ) l } := by
  apply Subtype.mk
  unfold fn_take.body
  repeat (first
    | with_reducible apply IsSeq.cons
    | with_reducible apply isSeq_bind
    | with_reducible exact (where1Ops _ _ _ _).2
    | with_reducible exact IsSeq.nil
    | with_reducible exact isSeq_last _)

set_option maxHeartbeats 4000000 in
/-- The cipher's operations, part 1 of four. -/
abbrev threefryOps0 (a b : TRef sig ⟨S_, .i32⟩) (x y : TRef sig ⟨S64x8, .i32⟩) (φ : fn_threefry2x32.Bufs) :
    { l : List (HloOp τ sig (Elt F)) // IsSeq (fn_threefry2x32.body_part0 (F := F) a b x y φ) l } := by
  apply Subtype.mk
  unfold fn_threefry2x32.body_part0
  repeat (first
    | with_reducible apply IsSeq.cons
    | with_reducible exact IsSeq.nil
    | with_reducible exact isSeq_last _)

set_option maxHeartbeats 4000000 in
/-- The cipher's operations, part 2 of four. -/
abbrev threefryOps1 (a b : TRef sig ⟨S_, .i32⟩) (x y : TRef sig ⟨S64x8, .i32⟩) (φ : fn_threefry2x32.Bufs) :
    { l : List (HloOp τ sig (Elt F)) // IsSeq (fn_threefry2x32.body_part1 (F := F) a b x y φ) l } := by
  apply Subtype.mk
  unfold fn_threefry2x32.body_part1
  repeat (first
    | with_reducible apply IsSeq.cons
    | with_reducible exact IsSeq.nil
    | with_reducible exact isSeq_last _)

set_option maxHeartbeats 4000000 in
/-- The cipher's operations, part 3 of four. -/
abbrev threefryOps2 (a b : TRef sig ⟨S_, .i32⟩) (x y : TRef sig ⟨S64x8, .i32⟩) (φ : fn_threefry2x32.Bufs) :
    { l : List (HloOp τ sig (Elt F)) // IsSeq (fn_threefry2x32.body_part2 (F := F) a b x y φ) l } := by
  apply Subtype.mk
  unfold fn_threefry2x32.body_part2
  repeat (first
    | with_reducible apply IsSeq.cons
    | with_reducible exact IsSeq.nil
    | with_reducible exact isSeq_last _)

set_option maxHeartbeats 4000000 in
/-- The cipher's operations, part 4 of four. -/
abbrev threefryOps3 (a b : TRef sig ⟨S_, .i32⟩) (x y : TRef sig ⟨S64x8, .i32⟩) (φ : fn_threefry2x32.Bufs) :
    { l : List (HloOp τ sig (Elt F)) // IsSeq (fn_threefry2x32.body_part3 (F := F) a b x y φ) l } := by
  apply Subtype.mk
  unfold fn_threefry2x32.body_part3
  repeat (first
    | with_reducible apply IsSeq.cons
    | with_reducible exact IsSeq.nil
    | with_reducible exact isSeq_last _)

/-- The cipher's operations. -/
abbrev threefryOps (a b : TRef sig ⟨S_, .i32⟩) (x y : TRef sig ⟨S64x8, .i32⟩) (φ : fn_threefry2x32.Bufs) :
    { l : List (HloOp τ sig (Elt F)) // IsSeq (fn_threefry2x32.body (F := F) a b x y φ) l } := by
  apply Subtype.mk
  unfold fn_threefry2x32.body
  exact isSeq_bind (threefryOps0 ..).2 (isSeq_bind (threefryOps1 ..).2 (isSeq_bind (threefryOps2 ..).2 (threefryOps3 ..).2))

set_option maxHeartbeats 4000000 in
/-- The operations of the uniform draw. -/
abbrev uniformOps (k : TRef sig ⟨S2, .i32⟩) (a b : TRef sig ⟨S_, .f32⟩) (φ : fn_uniform.Bufs) :
    { l : List (HloOp τ sig (Elt F)) // IsSeq (fn_uniform.body (F := F) k a b φ) l } := by
  apply Subtype.mk
  unfold fn_uniform.body
  repeat (first
    | with_reducible apply IsSeq.cons
    | with_reducible apply isSeq_bind
    | with_reducible exact (threefryOps _ _ _ _ _).2
    | with_reducible exact IsSeq.nil
    | with_reducible exact isSeq_last _)

/-- The operations of the sort of the draw. -/
abbrev argsortOps (a : TRef sig ⟨S64x8, .f32⟩) (φ : fn_argsort.Bufs) :
    { l : List (HloOp τ sig (Elt F)) // IsSeq (fn_argsort.body (F := F) a φ) l } := by
  apply Subtype.mk
  unfold fn_argsort.body
  repeat (first
    | with_reducible apply IsSeq.cons
    | with_reducible exact IsSeq.nil
    | with_reducible exact isSeq_last _)

/-- The operations of the sort of the shuffled places. -/
abbrev argsort2Ops (a : TRef sig ⟨S64x8, .i32⟩) (φ : fn_argsort_2.Bufs) :
    { l : List (HloOp τ sig (Elt F)) // IsSeq (fn_argsort_2.body (F := F) a φ) l } := by
  apply Subtype.mk
  unfold fn_argsort_2.body
  repeat (first
    | with_reducible apply IsSeq.cons
    | with_reducible exact IsSeq.nil
    | with_reducible exact isSeq_last _)

/-- The operations that keep six of the regions. -/
abbrev alongOps (x : TRef sig ⟨S64x2048x8x16, .f32⟩) (i : TRef sig ⟨S64x2048x6x16, .i32⟩) (φ : fn_take_along_axis.Bufs) :
    { l : List (HloOp τ sig (Elt F)) // IsSeq (fn_take_along_axis.body (F := F) x i φ) l } := by
  apply Subtype.mk
  unfold fn_take_along_axis.body
  repeat (first
    | with_reducible apply IsSeq.cons
    | with_reducible exact IsSeq.nil
    | with_reducible exact isSeq_last _)

/-- The operations that put the regions back in their order. -/
abbrev along3Ops (x : TRef sig ⟨S64x2048x8x16, .f32⟩) (i : TRef sig ⟨S64x2048x8x16, .i32⟩) (φ : fn_take_along_axis_3.Bufs) :
    { l : List (HloOp τ sig (Elt F)) // IsSeq (fn_take_along_axis_3.body (F := F) x i φ) l } := by
  apply Subtype.mk
  unfold fn_take_along_axis_3.body
  repeat (first
    | with_reducible apply IsSeq.cons
    | with_reducible exact IsSeq.nil
    | with_reducible exact isSeq_last _)

set_option maxHeartbeats 4000000 in
/-- The operations of the first part of @main. -/
abbrev mainOps0 (c : Dev nD) :
    { l : List (HloOp τ sig (Elt F)) // IsSeq (main_part0 (F := F) c) l } := by
  apply Subtype.mk
  unfold main_part0
  repeat (first
    | with_reducible apply IsSeq.cons
    | with_reducible apply isSeq_bind
    | with_reducible exact (cumsumOps _ _).2
    | with_reducible exact (whereOps _ _ _ _).2
    | with_reducible exact (takeOps _ _ _).2
    | with_reducible exact (uniformOps _ _ _ _).2
    | with_reducible exact (argsortOps _ _).2
    | with_reducible exact (alongOps _ _ _).2
    | with_reducible exact (argsort2Ops _ _).2
    | with_reducible exact (along3Ops _ _ _).2
    | with_reducible exact IsSeq.nil
    | with_reducible exact isSeq_last _)

set_option maxHeartbeats 4000000 in
/-- The operations of the rest of @main. -/
abbrev mainOps1 (c : Dev nD) :
    { l : List (HloOp τ sig (Elt F)) // IsSeq (main_part1 (F := F) c) l } := by
  apply Subtype.mk
  unfold main_part1
  repeat (first
    | with_reducible apply IsSeq.cons
    | with_reducible exact IsSeq.nil
    | with_reducible exact isSeq_last _)

/-- @main is the straight line of its operations. -/
theorem main_isSeq (c : Dev nD) : IsSeq (main (F := F) c) ((mainOps0 (F := F) c).1 ++ (mainOps1 (F := F) c).1) := by
  unfold main
  exact isSeq_bind (mainOps0 c).2 (mainOps1 c).2

end Cert.ReferenceIdeal.Hand

end
-- ==== Proof.RefRun2.lean ====
/- The reference's run: what every buffer holds when @main has run. -/
module

public import proofs.«01_k».proof.Proof.RefRun

@[expose] public section

set_option maxRecDepth 16384

noncomputable section

namespace Cert.ReferenceIdeal.Hand

open Idealize.ShloMosaic Idealize.ShloMosaic.StableHlo Idealize.SL.Sem
open Cert.ReferenceIdeal

variable {F : FTy → Type} [FloatOps F] [Facts]

/-- All of @main's operations, in order. -/
abbrev opsAll : List (HloOp τ sig (Elt F)) := (mainOps0 (F := F) 0).1 ++ (mainOps1 (F := F) 0).1

/-- The operations before the draw: the region embedding. -/
abbrev opsA : List (HloOp τ sig (Elt F)) := (opsAll (F := F)).take 73

/-- The operations after the draw. -/
abbrev opsZ : List (HloOp τ sig (Elt F)) := (opsAll (F := F)).drop 335

/-- The draw's operations in @main. -/
abbrev opsU : List (HloOp τ sig (Elt F)) := (uniformOps (F := F) (.of main_v37) (.of main_cst) (.of main_cst_5) main_call3).1

/-- @main's operations, cut at the draw. -/
theorem opsAll_cut : opsAll (F := F) = opsA ++ (opsU ++ opsZ) := rfl

/-- A list of operations one of which is first: all within the program's buffers. -/
theorem sub_cons {op : HloOp τ sig (Elt F)} {l : List (HloOp τ sig (Elt F))} (h : op.bufs ⊆ tcRefs τ sig)
    (hl : l.Forall fun op => op.bufs ⊆ tcRefs τ sig) : (op :: l).Forall fun op => op.bufs ⊆ tcRefs τ sig :=
  (List.forall_cons _ _ _).2 ⟨h, hl⟩

section
open TcCoe
variable {a b c x y : Ref sig .tc} {l : List (HloOp τ sig (Elt F))}

/-- A constant first. -/
theorem sub_nullary (v : y.ty.Contents (Elt F)) (hy : y.space ≠ .host ∧ (y : DevRef τ sig).isScoped = false) (hl : l.Forall fun op => op.bufs ⊆ tcRefs τ sig) :
    (nullary y v hy :: l).Forall fun op => op.bufs ⊆ tcRefs τ sig := sub_cons (nullary_bufs_sub ..) hl
/-- An operation of one operand first. -/
theorem sub_unary (f : x.ty.Contents (Elt F) → y.ty.Contents (Elt F)) (hx : x.space ≠ .host ∧ (x : DevRef τ sig).isScoped = false) (hy : y.space ≠ .host ∧ (y : DevRef τ sig).isScoped = false) (hl : l.Forall fun op => op.bufs ⊆ tcRefs τ sig) :
    (unary x y f hx hy :: l).Forall fun op => op.bufs ⊆ tcRefs τ sig := sub_cons (unary_bufs_sub ..) hl
/-- An operation of two operands first. -/
theorem sub_binary (f : a.ty.Contents (Elt F) → b.ty.Contents (Elt F) → y.ty.Contents (Elt F)) (ha : a.space ≠ .host ∧ (a : DevRef τ sig).isScoped = false) (hb : b.space ≠ .host ∧ (b : DevRef τ sig).isScoped = false) (hy : y.space ≠ .host ∧ (y : DevRef τ sig).isScoped = false) (hl : l.Forall fun op => op.bufs ⊆ tcRefs τ sig) :
    (binary a b y f ha hb hy :: l).Forall fun op => op.bufs ⊆ tcRefs τ sig := sub_cons (binary_bufs_sub ..) hl
/-- An operation of three operands first. -/
theorem sub_ternary (f : c.ty.Contents (Elt F) → a.ty.Contents (Elt F) → b.ty.Contents (Elt F) → y.ty.Contents (Elt F)) (hc : c.space ≠ .host ∧ (c : DevRef τ sig).isScoped = false) (ha : a.space ≠ .host ∧ (a : DevRef τ sig).isScoped = false) (hb : b.space ≠ .host ∧ (b : DevRef τ sig).isScoped = false) (hy : y.space ≠ .host ∧ (y : DevRef τ sig).isScoped = false) (hl : l.Forall fun op => op.bufs ⊆ tcRefs τ sig) :
    (ternary c a b y f hc ha hb hy :: l).Forall fun op => op.bufs ⊆ tcRefs τ sig := sub_cons (ternary_bufs_sub ..) hl
/-- A reshape first. -/
theorem sub_reshape (he : x.ty.elt = y.ty.elt) (hn : x.ty.shape.ShapeCasts y.ty.shape) (hx : x.space ≠ .host ∧ (x : DevRef τ sig).isScoped = false) (hy : y.space ≠ .host ∧ (y : DevRef τ sig).isScoped = false) (hl : l.Forall fun op => op.bufs ⊆ tcRefs τ sig) :
    (reshape x y he hn hx hy :: l).Forall fun op => op.bufs ⊆ tcRefs τ sig := sub_cons (reshape_bufs_sub ..) hl

end

set_option maxHeartbeats 4000000 in
/-- Every operation touches the program's buffers only. -/
theorem opsAll_sub : (opsAll (F := F)).Forall fun op => op.bufs ⊆ tcRefs τ sig := by
  dsimp only [opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append]
  repeat (first
    | with_reducible apply sub_unary
    | with_reducible apply sub_binary
    | with_reducible apply sub_nullary
    | with_reducible apply sub_ternary
    | with_reducible apply sub_reshape)
  trivial

/-- No operation changes a buffer it does not write. -/
theorem opsAll_fresh : ∀ op ∈ opsAll (F := F), op.fresh = ∅ :=
  List.forall_iff_forall_mem.1 (forall_fresh_of_map rfl)

/-- Every run of the reference ends with each buffer at what the operations leave there. -/
theorem run_result (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after (opsAll (F := F)) (launchContents m d) (Proc.devRef .tc b) :=
  run_hlo defs main (fun d => by obtain rfl : d = 0 := Subsingleton.elim _ _; exact main_isSeq 0) (by decide) (by decide)
    opsAll_sub opsAll_fresh m ρ

end Cert.ReferenceIdeal.Hand

end
-- ==== Proof.RefFrame.lean ====
/- The reference leaves its arguments as launched. -/
module

public import proofs.«01_k».proof.Proof.RefRun2
public import proofs.«01_k».proof.Proof.Gen.ReferenceIdeal
public import Idealize.ShloMosaic.Lib.Quiescent

@[expose] public section

set_option maxRecDepth 16384

noncomputable section

namespace Cert.ReferenceIdeal.Hand

open Idealize.ShloMosaic Idealize.ShloMosaic.StableHlo Idealize.SL.Sem
open Cert.ReferenceIdeal

variable {F : FTy → Type} [FloatOps F]

/-- The buffers the operations write, in order: all those after the arguments. -/
abbrev written : List (Ref sig .tc) :=
  (List.finRange 402).map fun i => (⟨.hbm, ⟨9 + i.1, by have := i.2; show 9 + i.1 < 411; omega⟩, rfl⟩ : Ref sig .tc)

set_option maxHeartbeats 4000000 in
/-- Each operation writes its own buffer. -/
theorem opsAll_writes : (opsAll (F := F)).Forall fun op => op.writes ⊆ (written.map (Proc.devRef (τ := τ) .tc)).toFinset :=
  forall_writes_sub_of_map rfl

/-- A buffer before the first one written keeps its contents. -/
theorem opsAll_kept (V : Valuation τ sig (Elt F)) {r : Ref sig .tc} (hr : r.idx.val < 9) :
    after (opsAll (F := F)) V (Proc.devRef .tc r) = V (Proc.devRef .tc r) :=
  after_of_writes_sub opsAll V opsAll_writes fun h => by
    obtain ⟨i, -, rfl⟩ := List.mem_map.1 h
    exact absurd hr (by show ¬ 9 + i.1 < 9; omega)

/-- Every run of the reference ends with the result at what the operations leave there, the arguments as launched, and
    every counter at zero. -/
theorem run_full (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v58) = after (opsAll (F := F)) (launchContents m c) (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  θ_run_mono (run_result m ρ) fun r h => ⟨fun c => ⟨h c main_v58,
      (h c main_arg0).trans (opsAll_kept _ (by decide)), (h c main_arg1).trans (opsAll_kept _ (by decide)), (h c main_arg2).trans (opsAll_kept _ (by decide)), (h c main_arg3).trans (opsAll_kept _ (by decide)), (h c main_arg4).trans (opsAll_kept _ (by decide)), (h c main_arg5).trans (opsAll_kept _ (by decide)), (h c main_arg6).trans (opsAll_kept _ (by decide)), (h c main_arg7).trans (opsAll_kept _ (by decide)), (h c main_arg8).trans (opsAll_kept _ (by decide))⟩,
    sem_eq_zero_of_no_sems (by decide) r.2⟩

end Cert.ReferenceIdeal.Hand

end
-- ==== Proof.KernelRun.lean ====
/- The idealized kernel's run, with the result named: the array the last grid step leaves. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result at what the second grid leaves it, the arguments as launched, and
    every counter at zero. -/
theorem run_result : θ_run defs (onTc (τ := τ) (main (F := F))) ⟨m, fun _ => 0, ρ⟩ (fun r => (∀ c : Dev nD,
      r.2.mem ((c.tc : Thread nD τ).loc main_v20) = W8 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v20 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩), funext fun g => hz g (.inr (no_unscoped g.2))⟩)

end Cert.KernelIdeal.Hand

end
-- ==== Proof.RefTerms.lean ====
/- What the reference's operations compute, part by part, as functions of arrays. -/
module

public import proofs.«01_k».proof.ReferenceIdeal
public import proofs.«01_k».proof.Proof.Gen.ReferenceIdeal

@[expose] public section

noncomputable section

namespace Cert.ReferenceIdeal.Hand

open Idealize.ShloMosaic
open Cert.ReferenceIdeal Cert.ReferenceIdeal.Facts₀ Cert.ReferenceIdeal.Facts

variable {F : FTy → Type} [FloatOps F]

/-- Which neurons an area owns, read off the first sequence's table. -/
def inArea (nr : IVec S64x256 32) : IVec S8x256 1 :=
  cmpi .eq
    (broadcastInDim S8x256 ![0, 1] bcast_S1x256_S8x256_0_1 (broadcastInDim S1x256 ![1] bcast_S256_S1x256_1
      (shapeCast S256 (extractStridedSlice S1x256 ![0, 0] nr slices_S64x256_S1x256_0_0) shapeCasts_S1x256_S256)))
    (broadcastInDim S8x256 ![0, 1] bcast_S8x1_S8x256_0_1 (broadcastInDim S8x1 ![0] bcast_S8_S8x1_0 (iotaInDim S8 32 0)))

/-- How many neurons an area owns up to each neuron. -/
def rank (p : IVec S8x256 1) : IVec S8x256 32 :=
  Host.reduceWindow IntOp.addi ![1, 256] ![1, 1] ![0, 255] ![0, 0] (extui 32 p natLt_1_32)
    (broadcastInDim S_ ![] bcast_S_S_ (constantI S_ 32 0#32)) reduceWindows_S8x256_S8x256_w1s1p0_0_w256s1p255_0 h_S_

/-- Which neuron is an area's k-th. -/
def kth (p : IVec S8x256 1) (rk : IVec S8x256 32) : IVec S8x32x256 1 :=
  andi (broadcastInDim S8x32x256 ![0, 1, 2] bcast_S8x1x256_S8x32x256_0_1_2 (broadcastInDim S8x1x256 ![0, 2] bcast_S8x256_S8x1x256_0_2 p))
    (cmpi .eq
      (broadcastInDim S8x32x256 ![0, 1, 2] bcast_S8x1x256_S8x32x256_0_1_2 (broadcastInDim S8x1x256 ![0, 2] bcast_S8x256_S8x1x256_0_2 rk))
      (broadcastInDim S8x32x256 ![0, 1, 2] bcast_S1x32x1_S8x32x256_0_1_2 (broadcastInDim S1x32x1 ![1] bcast_S32_S1x32x1_1
        (addi (broadcastInDim S32 ![] bcast_S_S32 (constantI S_ 32 1#32)) (iotaInDim S32 32 0)))))

/-- The number of each area's k-th neuron. -/
def neuronMask (q : IVec S8x32x256 1) : IVec S8x32 32 :=
  Host.reduce IntOp.addi
    (select q (broadcastInDim S8x32x256 ![0, 1, 2] bcast_S1x1x256_S8x32x256_0_1_2 (broadcastInDim S1x1x256 ![2] bcast_S256_S1x1x256_2 (iotaInDim S256 32 0)))
      (broadcastInDim S8x32x256 ![] bcast_S_S8x32x256 (constantI S_ 32 0#32)))
    (constantI S_ 32 0#32) reducesTo_S8x32x256_S8x32_d2 h_S_

/-- A neuron's number counted from the end where it is negative, as the take's start indices. -/
def takeStart (i : IVec S8x32 32) : IVec S8x32x1 32 :=
  broadcastInDim S8x32x1 ![0, 1] bcast_S8x32_S8x32x1_0_1
    (select (cmpi .slt i (broadcastInDim S8x32 ![] bcast_S_S8x32 (constantI S_ 32 0#32)))
      (addi i (broadcastInDim S8x32 ![] bcast_S_S8x32 (constantI S_ 32 256#32))) i)

/-- Which start indices are in range. -/
def takeIn (i : IVec S8x32x1 32) : IVec S8x32 1 :=
  Host.reduce IntOp.andi
    (andi (cmpi .sge i (broadcastInDim S8x32x1 ![] bcast_S_S8x32x1 (constantI S_ 32 0#32)))
      (cmpi .sle i (broadcastInDim S8x32x1 ![0, 1, 2] bcast_S1x1x1_S8x32x1_0_1_2 (broadcastInDim S1x1x1 ![2] bcast_S1_S1x1x1_2 (constantI S1 32 255#32)))))
    (constantI S_ 1 1#1) reducesTo_S8x32x1_S8x32_d2 h_S_

/-- The spikes of the numbered neurons. -/
def take (x : FVec F S64x2048x256 .f32) (i : IVec S8x32x1 32) : FVec F S64x2048x8x32 .f32 :=
  select (broadcastInDim S64x2048x8x32 ![2, 3] bcast_S8x32_S64x2048x8x32_2_3 (takeIn i))
    (Host.gather gather_S64x2048x256_S8x32x1_S64x2048x8x32_01_2_n_n_2_2_6420481 x i)
    (broadcastInDim S64x2048x8x32 ![] bcast_S_S64x2048x8x32 (constant S_ .f32 0x7FC00000#32))

/-- Each region's own layer. -/
def embed (w : FVec F S8x32x16 .f32) (x : FVec F S64x2048x8x32 .f32) (b : FVec F S8x16 .f32) : FVec F S64x2048x8x16 .f32 :=
  addf (transpose S64x2048x8x16 [2, 3, 0, 1] (Host.dotGeneral dot_S8x32x16_S64x2048x8x32_S8x16x64x2048_1_3_2_01_0_2 none w x)
      transposes_S8x16x64x2048_S64x2048x8x16_2_3_0_1)
    (broadcastInDim S64x2048x8x16 ![0, 1, 2, 3] bcast_S1x1x8x16_S64x2048x8x16_0_1_2_3 (broadcastInDim S1x1x8x16 ![2, 3] bcast_S8x16_S1x1x8x16_2_3 b))

/-- The first six shuffled places, for every position and feature. -/
def keptPlaces (sh : IVec S64x8 32) : IVec S64x2048x6x16 32 :=
  broadcastInDim S64x2048x6x16 ![0, 1, 2, 3] bcast_S64x1x6x1_S64x2048x6x16_0_1_2_3
    (broadcastInDim S64x1x6x1 ![0, 2] bcast_S64x6_S64x1x6x1_0_2 (extractStridedSlice S64x6 ![0, 0] sh slices_S64x8_S64x6_0_0))

/-- The restored places, for every position and feature. -/
def restoredPlaces (re : IVec S64x8 32) : IVec S64x2048x8x16 32 :=
  broadcastInDim S64x2048x8x16 ![0, 1, 2, 3] bcast_S64x1x8x1_S64x2048x8x16_0_1_2_3
    (broadcastInDim S64x1x8x1 ![0, 2] bcast_S64x8_S64x1x8x1_0_2 re)

/-- A place counted from the end where it is negative, as the start indices of the selection of six regions. -/
def start6 (i : IVec S64x2048x6x16 32) : IVec S64x2048x6x16x1 32 :=
  shapeCast S64x2048x6x16x1
    (select (cmpi .slt i (broadcastInDim S64x2048x6x16 ![] bcast_S_S64x2048x6x16 (constantI S_ 32 0#32)))
      (addi i (broadcastInDim S64x2048x6x16 ![] bcast_S_S64x2048x6x16 (constantI S_ 32 8#32))) i)
    shapeCasts_S64x2048x6x16_S64x2048x6x16x1

/-- The six selected regions. -/
def along6 (x : FVec F S64x2048x8x16 .f32) (i : IVec S64x2048x6x16x1 32) : FVec F S64x2048x6x16 .f32 :=
  select (Host.reduce IntOp.andi
      (andi (cmpi .sge i (broadcastInDim S64x2048x6x16x1 ![] bcast_S_S64x2048x6x16x1 (constantI S_ 32 0#32)))
        (cmpi .sle i (broadcastInDim S64x2048x6x16x1 ![0, 1, 2, 3, 4] bcast_S1x1x1x1x1_S64x2048x6x16x1_0_1_2_3_4
          (broadcastInDim S1x1x1x1x1 ![4] bcast_S1_S1x1x1x1x1_4 (constantI S1 32 7#32)))))
      (constantI S_ 1 1#1) reducesTo_S64x2048x6x16x1_S64x2048x6x16_d4 h_S_)
    (Host.gather gather_S64x2048x8x16_S64x2048x6x16x1_S64x2048x6x16_n_2_013_013_2_4_1111 x i)
    (broadcastInDim S64x2048x6x16 ![] bcast_S_S64x2048x6x16 (constant S_ .f32 0x7FC00000#32))

/-- A place counted from the end where it is negative, as the start indices of the restoring selection. -/
def start8 (i : IVec S64x2048x8x16 32) : IVec S64x2048x8x16x1 32 :=
  shapeCast S64x2048x8x16x1
    (select (cmpi .slt i (broadcastInDim S64x2048x8x16 ![] bcast_S_S64x2048x8x16 (constantI S_ 32 0#32)))
      (addi i (broadcastInDim S64x2048x8x16 ![] bcast_S_S64x2048x8x16 (constantI S_ 32 8#32))) i)
    shapeCasts_S64x2048x8x16_S64x2048x8x16x1

/-- The regions put back. -/
def along8 (x : FVec F S64x2048x8x16 .f32) (i : IVec S64x2048x8x16x1 32) : FVec F S64x2048x8x16 .f32 :=
  select (Host.reduce IntOp.andi
      (andi (cmpi .sge i (broadcastInDim S64x2048x8x16x1 ![] bcast_S_S64x2048x8x16x1 (constantI S_ 32 0#32)))
        (cmpi .sle i (broadcastInDim S64x2048x8x16x1 ![0, 1, 2, 3, 4] bcast_S1x1x1x1x1_S64x2048x8x16x1_0_1_2_3_4
          (broadcastInDim S1x1x1x1x1 ![4] bcast_S1_S1x1x1x1x1_4 (constantI S1 32 7#32)))))
      (constantI S_ 1 1#1) reducesTo_S64x2048x8x16x1_S64x2048x8x16_d4 h_S_)
    (Host.gather gather_S64x2048x8x16_S64x2048x8x16x1_S64x2048x8x16_n_2_013_013_2_4_1111 x i)
    (broadcastInDim S64x2048x8x16 ![] bcast_S_S64x2048x8x16 (constant S_ .f32 0x7FC00000#32))

/-- Six regions followed by two. -/
def joined (x : FVec F S64x2048x6x16 .f32) (y : FVec F S64x2048x2x16 .f32) : FVec F S64x2048x8x16 .f32 :=
  concatenate S64x2048x8x16 2 [⟨S64x2048x6x16, x⟩, ⟨S64x2048x2x16, y⟩] concatenates_S64x2048x6x16_S64x2048x2x16_S64x2048x8x16_d2

/-- The six regions followed by two of zeros. -/
def padded (x : FVec F S64x2048x6x16 .f32) : FVec F S64x2048x8x16 .f32 :=
  joined x (broadcastInDim S64x2048x2x16 ![] bcast_S_S64x2048x2x16 (constant S_ .f32 0x00000000#32))

/-- The two dense layers. -/
def dense (x : FVec F S64x2048x8x16 .f32) (WU : FVec F S128x256 .f32) (bU : FVec F S256 .f32) (WV : FVec F S256x160 .f32)
    (bV : FVec F S160 .f32) : FVec F S64x2048x160 .f32 :=
  addf (Host.dotGeneral dot_S64x2048x256_S256x160_S64x2048x160_2_0_01_1_n_n none
      (addf (Host.dotGeneral dot_S64x2048x128_S128x256_S64x2048x256_2_0_01_1_n_n none
          (shapeCast S64x2048x128 x shapeCasts_S64x2048x8x16_S64x2048x128) WU)
        (broadcastInDim S64x2048x256 ![0, 1, 2] bcast_S1x1x256_S64x2048x256_0_1_2 (broadcastInDim S1x1x256 ![2] bcast_S256_S1x1x256_2 bU))) WV)
    (broadcastInDim S64x2048x160 ![0, 1, 2] bcast_S1x1x160_S64x2048x160_0_1_2 (broadcastInDim S1x1x160 ![2] bcast_S160_S1x1x160_2 bV))

/-- The places that the sort of the noise leaves. -/
def shuffled (noise : FVec F S64x8 .f32) : IVec S64x8 32 := (Host.sort2 S64x8 1 comparator_f32_i32_d1 noise (iotaInDim S64x8 32 1)).2

/-- The places that the sort of those places leaves. -/
def restored (sh : IVec S64x8 32) : IVec S64x8 32 := (Host.sort2 S64x8 1 comparator_i32_i32_d1 sh (iotaInDim S64x8 32 1)).2

end Cert.ReferenceIdeal.Hand

end
-- ==== Proof.KernelHost.lean ====
/- What the kernel's host operations leave for the two calls. -/
module

public import proofs.«01_k».proof.Proof.Gen.KernelIdeal.Frame
public import proofs.«01_k».proof.Proof.RefTerms
public import Idealize.ShloMosaic.Lib.StableHlo.RunRead

@[expose] public section

set_option maxRecDepth 16384

noncomputable section

namespace Cert.KernelIdeal.Hand

open Idealize.ShloMosaic Idealize.ShloMosaic.StableHlo Idealize.ShloMosaic.TcCoe Idealize.SL.Sem
open Cert.KernelIdeal Cert.KernelIdeal.Facts₀ Cert.KernelIdeal.Facts Cert.KernelIdeal.Gen

variable {F : FTy → Type} [FloatOps F]

/-- The first sort leaves the shuffled places. -/
theorem sort_v8 (V : Valuation τ sig (Elt F)) :
    after hostOps0_2 V (Proc.devRef .tc main_v8) = Cert.ReferenceIdeal.Hand.shuffled (V (Proc.devRef .tc main_v7)) := by
  dsimp only [hostOps0_2]
  after_reads_simp
  try simp only [TRef.ofBuf_toBuf]
  try dsimp only [TRef.ofBuf, TRef.toBuf, TRef.of, cast]
  rfl

/-- The second sort leaves the restored places. -/
theorem sort_v9 (V : Valuation τ sig (Elt F)) :
    after hostOps0_3 V (Proc.devRef .tc main_v9) = Cert.ReferenceIdeal.Hand.restored (V (Proc.devRef .tc main_v8)) := by
  dsimp only [hostOps0_3]
  after_reads_simp
  try simp only [TRef.ofBuf_toBuf]
  try dsimp only [TRef.ofBuf, TRef.toBuf, TRef.of, cast]
  rfl

/-- Which regions are kept, as ones and zeros. -/
def keep (p : IVec S64x8 32) : FVec F S64x8 .f32 :=
  uitofp .f32 (cmpi .slt p (broadcastInDim S64x8 ![] Gen.bcast_S_S64x8 (constantI S_ 32 6#32)))

/-- The same for every neuron. -/
def columns (k : FVec F S64x8 .f32) : FVec F S64x256 .f32 :=
  shapeCast S64x256 (broadcastInDim S64x8x32 ![0, 1] Gen.bcast_S64x8_S64x8x32_0_1 k) Gen.shapeCasts_S64x8x32_S64x256

/-- The kept regions, before the first call. -/
theorem prep_v12 (V : Valuation τ sig (Elt F)) :
    after hostOps0_4 V (Proc.devRef .tc main_v12) = keep (V (Proc.devRef .tc main_v9)) := by
  dsimp only [hostOps0_4]
  after_reads_simp
  rfl

/-- The kept neurons, before the first call. -/
theorem prep_v14 (V : Valuation τ sig (Elt F)) :
    after hostOps0_4 V (Proc.devRef .tc main_v14) = columns (keep (V (Proc.devRef .tc main_v9))) := by
  dsimp only [hostOps0_4]
  after_reads_simp
  rfl

/-- The first dense layer's bias as a row. -/
theorem prep_v15 (V : Valuation τ sig (Elt F)) :
    after hostOps0_4 V (Proc.devRef .tc main_v15) = shapeCast S1x256 (V (Proc.devRef .tc main_arg6) : FVec F S256 .f32) Gen.shapeCasts_S256_S1x256 := by
  dsimp only [hostOps0_4]
  after_reads_simp
  rfl

/-- The second dense layer's bias as a row. -/
theorem prep_v16 (V : Valuation τ sig (Elt F)) :
    after hostOps0_4 V (Proc.devRef .tc main_v16) = shapeCast S1x160 (V (Proc.devRef .tc main_arg8) : FVec F S160 .f32) Gen.shapeCasts_S160_S1x160 := by
  dsimp only [hostOps0_4]
  after_reads_simp
  rfl

/-- The kept neurons, one row to a sequence, before the second call. -/
theorem prep_v18 (V : Valuation τ sig (Elt F)) :
    after hostOps1 V (Proc.devRef .tc main_v18) = shapeCast S64x1x256 (V (Proc.devRef .tc main_v14) : FVec F S64x256 .f32) Gen.shapeCasts_S64x256_S64x1x256 := by
  dsimp only [hostOps1]
  after_reads_simp
  rfl

/-- The sequences' biases, one row to a sequence, before the second call. -/
theorem prep_v19 (V : Valuation τ sig (Elt F)) :
    after hostOps1 V (Proc.devRef .tc main_v19) = shapeCast S64x1x160 (V (Proc.devRef .tc main_v17_1) : FVec F S64x160 .f32) Gen.shapeCasts_S64x160_S64x1x160 := by
  dsimp only [hostOps1]
  after_reads_simp
  rfl

variable (m : (ℓ : Loc nD τ sig) → Buf (Elt F) ℓ) (ρ : Dev nD → PrngReg)

/-- The noise the kernel draws. -/
def noise (c : Dev nD) : FVec F S64x8 .f32 := W2 m ρ c (Proc.devRef .tc main_v7)

/-- The places after both sorts. -/
theorem W4_v9 (c : Dev nD) : W4 m ρ c (Proc.devRef .tc main_v9)
    = Cert.ReferenceIdeal.Hand.restored (Cert.ReferenceIdeal.Hand.shuffled (noise m ρ c)) :=
  (sort_v9 _).trans (congrArg _ (sort_v8 _))

end Cert.KernelIdeal.Hand

end
-- ==== Proof.Fold.lean ====
/- The identity behind the folding, over the extended reals: three linear layers, the first one masked by regions, are one
   linear layer whose matrix does not depend on the mask. -/
module

public import Idealize.ShloMosaic.Lib.Pointwise
public import Mathlib.Data.EReal.Operations
public import Mathlib.Algebra.BigOperators.Fin
public import Mathlib.Tactic.Ring
public import Mathlib.Tactic.Positivity
public import Mathlib.Tactic.NormNum

@[expose] public section

noncomputable section

namespace Cert.Fold

open Finset

/-- The region of a neuron. -/
def reg (n : Fin 256) : Fin 8 := ⟨n.1 / 32, by omega⟩
/-- A neuron's place in its region. -/
def off (n : Fin 256) : Fin 32 := ⟨n.1 % 32, by omega⟩
/-- The region of a feature. -/
def reg' (q : Fin 128) : Fin 8 := ⟨q.1 / 16, by omega⟩
/-- A feature's place in its region. -/
def off' (q : Fin 128) : Fin 16 := ⟨q.1 % 16, by omega⟩
/-- The neuron at a place of a region. -/
def neuron (r : Fin 8) (i : Fin 32) : Fin 256 := ⟨32 * r.1 + i.1, by omega⟩
/-- The feature at a place of a region. -/
def feature (r : Fin 8) (c : Fin 16) : Fin 128 := ⟨16 * r.1 + c.1, by omega⟩

/-- A sum over the neurons, region by region. -/
theorem sum_neurons {M : Type} [AddCommMonoid M] (f : Fin 256 → M) : ∑ n, f n = ∑ r, ∑ i, f (neuron r i) := by
  rw [← Fintype.sum_prod_type', ← (finProdFinEquiv (m := 8) (n := 32)).sum_comp]
  refine Finset.sum_congr rfl fun p _ => congrArg f (Fin.ext ?_)
  simp only [finProdFinEquiv, Equiv.coe_fn_mk, neuron]
  omega

/-- A sum over the features, region by region. -/
theorem sum_features {M : Type} [AddCommMonoid M] (f : Fin 128 → M) : ∑ q, f q = ∑ r, ∑ c, f (feature r c) := by
  rw [← Fintype.sum_prod_type', ← (finProdFinEquiv (m := 8) (n := 16)).sum_comp]
  refine Finset.sum_congr rfl fun p _ => congrArg f (Fin.ext ?_)
  simp only [finProdFinEquiv, Equiv.coe_fn_mk, feature]
  omega

theorem reg_neuron (r : Fin 8) (i : Fin 32) : reg (neuron r i) = r := Fin.ext (by simp only [reg, neuron]; omega)
theorem off_neuron (r : Fin 8) (i : Fin 32) : off (neuron r i) = i := Fin.ext (by simp only [off, neuron]; omega)
theorem reg_feature (r : Fin 8) (c : Fin 16) : reg' (feature r c) = r := Fin.ext (by simp only [reg', feature]; omega)
theorem off_feature (r : Fin 8) (c : Fin 16) : off' (feature r c) = c := Fin.ext (by simp only [off', feature]; omega)

section
variable {K : Type} [AddCommMonoid K] [Mul K]

/-- The two dense layers' product. -/
def M2 (WU : Fin 128 → Fin 256 → K) (WV : Fin 256 → K) (q : Fin 128) : K := ∑ h, WU q h * WV h

/-- The folded matrix: each region's own layer, then the two dense layers. -/
def A (Wst : Fin 8 → Fin 32 → Fin 16 → K) (WU : Fin 128 → Fin 256 → K) (WV : Fin 256 → K) (n : Fin 256) : K :=
  ∑ c, Wst (reg n) (off n) c * M2 WU WV (feature (reg n) c)

/-- A region's own bias through the two dense layers. -/
def biasRow (bst : Fin 8 → Fin 16 → K) (WU : Fin 128 → Fin 256 → K) (WV : Fin 256 → K) (r : Fin 8) : K :=
  ∑ c, bst r c * M2 WU WV (feature r c)

/-- What the kernel computes of one row. -/
def folded (X : Fin 256 → K) (k : Fin 8 → K) (Wst : Fin 8 → Fin 32 → Fin 16 → K) (bst : Fin 8 → Fin 16 → K)
    (WU : Fin 128 → Fin 256 → K) (bU : Fin 256 → K) (WV : Fin 256 → K) (bV : K) : K :=
  ∑ n, X n * k (reg n) * A Wst WU WV n + (∑ r, k r * biasRow bst WU WV r + (∑ h, bU h * WV h + bV))

/-- A feature of the region embedding. -/
def emb (X : Fin 256 → K) (Wst : Fin 8 → Fin 32 → Fin 16 → K) (bst : Fin 8 → Fin 16 → K) (r : Fin 8) (c : Fin 16) : K :=
  ∑ i, Wst r i c * X (neuron r i) + bst r c

/-- What the reference computes of one row. -/
def layered [Zero K] (X : Fin 256 → K) (kept : Fin 8 → Prop) [DecidablePred kept] (Wst : Fin 8 → Fin 32 → Fin 16 → K)
    (bst : Fin 8 → Fin 16 → K) (WU : Fin 128 → Fin 256 → K) (bU : Fin 256 → K) (WV : Fin 256 → K) (bV : K) : K :=
  ∑ h, (∑ q, (if kept (reg' q) then emb X Wst bst (reg' q) (off' q) else 0) * WU q h + bU h) * WV h + bV
end

/-- A finite factor distributes over a finite number plus any. -/
theorem add_mul_fin (a w : ℝ) (b : EReal) : ((a : EReal) + b) * (w : EReal) = ((a * w : ℝ) : EReal) + b * w := by
  induction b with
  | coe b => norm_cast; ring
  | bot =>
    rcases lt_trichotomy w 0 with h | h | h
    · rw [EReal.add_bot, EReal.bot_mul_coe_of_neg h, EReal.coe_add_top]
    · subst h; simp
    · rw [EReal.add_bot, EReal.bot_mul_coe_of_pos h, EReal.add_bot]
  | top =>
    rcases lt_trichotomy w 0 with h | h | h
    · rw [EReal.coe_add_top, EReal.top_mul_coe_of_neg h, EReal.add_bot]
    · subst h; simp
    · rw [EReal.coe_add_top, EReal.top_mul_coe_of_pos h, EReal.coe_add_top]

/-- A finite sum of real numbers, read among the extended reals. -/
theorem coe_sum {ι : Type} (s : Finset ι) (f : ι → ℝ) : ∑ i ∈ s, (f i : EReal) = ((∑ i ∈ s, f i : ℝ) : EReal) :=
  (map_sum (⟨⟨fun x : ℝ => (x : EReal), EReal.coe_zero⟩, EReal.coe_add⟩ : ℝ →+ EReal) f s).symm

/-- Over the reals, the dense layers of the masked embedding are the folded matrix's product and the masked biases. -/
theorem real_identity (X : Fin 256 → ℝ) (kept : Fin 8 → Prop) [DecidablePred kept] (Wst : Fin 8 → Fin 32 → Fin 16 → ℝ)
    (bst : Fin 8 → Fin 16 → ℝ) (WU : Fin 128 → Fin 256 → ℝ) (WV : Fin 256 → ℝ) :
    ∑ h, (∑ q, (if kept (reg' q) then emb X Wst bst (reg' q) (off' q) else 0) * WU q h) * WV h
      = ∑ n, X n * (if kept (reg n) then 1 else 0) * A Wst WU WV n
        + ∑ r, (if kept r then 1 else 0) * biasRow bst WU WV r := by
  have h1 : ∑ h, (∑ q, (if kept (reg' q) then emb X Wst bst (reg' q) (off' q) else 0) * WU q h) * WV h
      = ∑ q, (if kept (reg' q) then emb X Wst bst (reg' q) (off' q) else 0) * M2 WU WV q := by
    simp only [Finset.sum_mul, M2, Finset.mul_sum]
    rw [Finset.sum_comm]
    exact Finset.sum_congr rfl fun _ _ => Finset.sum_congr rfl fun _ _ => mul_assoc _ _ _
  rw [h1, sum_features, sum_neurons, ← Finset.sum_add_distrib]
  refine Finset.sum_congr rfl fun r _ => ?_
  simp only [reg_feature, off_feature, reg_neuron, off_neuron, A, biasRow, emb]
  by_cases h : kept r
  · simp only [if_pos h, mul_one, one_mul, add_mul, Finset.sum_add_distrib]
    congr 1
    simp only [Finset.sum_mul, Finset.mul_sum]
    rw [Finset.sum_comm]
    exact Finset.sum_congr rfl fun _ _ => Finset.sum_congr rfl fun _ _ => by ring
  · simp only [if_neg h, mul_zero, zero_mul, Finset.sum_const_zero, add_zero]

/-- A family of finite extended reals is a family of reals. -/
theorem lift {ι : Type} (x : ι → EReal) (h : ∀ i, x i ≠ ⊤ ∧ x i ≠ ⊥) : ∃ y : ι → ℝ, x = fun i => (y i : EReal) :=
  ⟨fun i => (x i).toReal, funext fun i => (EReal.coe_toReal (h i).1 (h i).2).symm⟩

/-- The two computations agree where the factors of the products are finite. -/
theorem layered_eq_folded (X : Fin 256 → EReal) (kept : Fin 8 → Prop) [DecidablePred kept]
    (Wst : Fin 8 → Fin 32 → Fin 16 → EReal) (bst : Fin 8 → Fin 16 → EReal) (WU : Fin 128 → Fin 256 → EReal)
    (bU : Fin 256 → EReal) (WV : Fin 256 → EReal) (bV : EReal)
    (hX : ∀ n, X n ≠ ⊤ ∧ X n ≠ ⊥) (hWst : ∀ r i c, Wst r i c ≠ ⊤ ∧ Wst r i c ≠ ⊥) (hbst : ∀ r c, bst r c ≠ ⊤ ∧ bst r c ≠ ⊥)
    (hWU : ∀ q h, WU q h ≠ ⊤ ∧ WU q h ≠ ⊥) (hWV : ∀ h, WV h ≠ ⊤ ∧ WV h ≠ ⊥) :
    layered X kept Wst bst WU bU WV bV = folded X (fun r => if kept r then 1 else 0) Wst bst WU bU WV bV := by
  obtain ⟨X, rfl⟩ := lift X hX
  obtain ⟨WV, rfl⟩ := lift WV hWV
  obtain ⟨Wst', hW⟩ := lift (fun p : Fin 8 × Fin 32 × Fin 16 => Wst p.1 p.2.1 p.2.2) fun p => hWst _ _ _
  obtain ⟨bst', hb⟩ := lift (fun p : Fin 8 × Fin 16 => bst p.1 p.2) fun p => hbst _ _
  obtain ⟨WU', hU⟩ := lift (fun p : Fin 128 × Fin 256 => WU p.1 p.2) fun p => hWU _ _
  obtain rfl : Wst = fun r i c => ((Wst' (r, i, c) : ℝ) : EReal) := by funext r i c; exact congrFun hW (r, i, c)
  obtain rfl : bst = fun r c => ((bst' (r, c) : ℝ) : EReal) := by funext r c; exact congrFun hb (r, c)
  obtain rfl : WU = fun q h => ((WU' (q, h) : ℝ) : EReal) := by funext q h; exact congrFun hU (q, h)
  have e1 : ∀ q, (if kept (reg' q) then emb (fun n => (X n : EReal)) (fun r i c => (Wst' (r, i, c) : EReal))
      (fun r c => (bst' (r, c) : EReal)) (reg' q) (off' q) else 0)
      = (((if kept (reg' q) then emb X (fun r i c => Wst' (r, i, c)) (fun r c => bst' (r, c)) (reg' q) (off' q) else 0 : ℝ)) : EReal) := by
    intro q
    split
    · simp only [emb, ← EReal.coe_mul, coe_sum, ← EReal.coe_add]
    · rfl
  have e2 : ∀ r, (if kept r then (1 : EReal) else 0) = ((if kept r then 1 else 0 : ℝ) : EReal) := by
    intro r; split <;> rfl
  have e3 : ∀ q, M2 (fun q h => (WU' (q, h) : EReal)) (fun h => (WV h : EReal)) q
      = ((M2 (fun q h => WU' (q, h)) WV q : ℝ) : EReal) := by
    intro q; simp only [M2, ← EReal.coe_mul, coe_sum]
  have e4 : ∀ n, A (fun r i c => (Wst' (r, i, c) : EReal)) (fun q h => (WU' (q, h) : EReal)) (fun h => (WV h : EReal)) n
      = ((A (fun r i c => Wst' (r, i, c)) (fun q h => WU' (q, h)) WV n : ℝ) : EReal) := by
    intro n; simp only [A, e3, ← EReal.coe_mul, coe_sum]
  have e5 : ∀ r, biasRow (fun r c => (bst' (r, c) : EReal)) (fun q h => (WU' (q, h) : EReal)) (fun h => (WV h : EReal)) r
      = ((biasRow (fun r c => bst' (r, c)) (fun q h => WU' (q, h)) WV r : ℝ) : EReal) := by
    intro r; simp only [biasRow, e3, ← EReal.coe_mul, coe_sum]
  unfold layered folded
  simp only [e1, e2, e4, e5, ← EReal.coe_mul, coe_sum, add_mul_fin, Finset.sum_add_distrib]
  rw [real_identity, EReal.coe_add]
  ac_rfl

end Cert.Fold

end
-- ==== Proof.KernelRegion0.lean ====
/- What the first call leaves: the folded matrix and every sequence's bias. -/
module

public import proofs.«01_k».proof.Proof.Gen.KernelIdeal.Frame
public import proofs.«01_k».proof.Proof.Fold
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Fold

/-- The folded matrix. -/
def matrix (w : FVec Ideal S8x32x16 .f32) (WU : FVec Ideal S128x256 .f32) (WV : FVec Ideal S256x160 .f32) : FVec Ideal S256x160 .bf16 := fun j =>
  ∑ c : Fin 16, w (ix3 (reg (j 0)) (off (j 0)) c) * ∑ h : Fin 256, WU (ix2 (feature (reg (j 0)) c) h) * WV (ix2 h (j 1))

/-- A region's bias through the dense layers. -/
def biasAt (s : FVec Ideal S8x16 .f32) (WU : FVec Ideal S128x256 .f32) (WV : FVec Ideal S256x160 .f32) (r : Fin 8) (v : Fin 160) : EReal :=
  ∑ c : Fin 16, s (ix2 r c) * ∑ h : Fin 256, WU (ix2 (feature r c) h) * WV (ix2 h v)

/-- Every sequence's bias. -/
def biases (k : FVec Ideal S64x8 .f32) (s : FVec Ideal S8x16 .f32) (WU : FVec Ideal S128x256 .f32) (bU : FVec Ideal S1x256 .f32)
    (WV : FVec Ideal S256x160 .f32) (bV : FVec Ideal S1x160 .f32) : FVec Ideal S64x160 .f32 := fun j =>
  (∑ r : Fin 8, k (ix2 (j 0) r) * biasAt s WU WV r (j 1) + (∑ h : Fin 256, bU (ix2 0 h) * WV (ix2 h (j 1)) + bV (ix2 0 (j 1))) : EReal)

/-- The matrix's block. -/
theorem out0_7_at (x0 : Vec Ideal S64x8 .f32) (w : Vec Ideal S8x32x16 .f32) (s : Vec Ideal S8x16 .f32) (WU : Vec Ideal S128x256 .f32)
    (bU : Vec Ideal S1x256 .f32) (WV : Vec Ideal S256x160 .f32) (bV : Vec Ideal S1x160 .f32) (y : S256x160.Idx) :
    out0_7 x0 w s WU bU WV bV y = matrix w WU WV y := by
  unfold matrix
  canon_tiles x h
  all_goals (open_payloads; pointwise; blk_point [reg, off, feature])

/-- The eight regions' rows, one under another. -/
def stacked (u0 u1 u2 u3 u4 u5 u6 u7 : FVec Ideal S1x160 .f32) : FVec Ideal S8x160 .f32 :=
  concatenate S8x160 0 [⟨S1x160, u0⟩, ⟨S1x160, u1⟩, ⟨S1x160, u2⟩, ⟨S1x160, u3⟩, ⟨S1x160, u4⟩, ⟨S1x160, u5⟩, ⟨S1x160, u6⟩, ⟨S1x160, u7⟩]
    concatenates_S1x160_S1x160_S1x160_S1x160_S1x160_S1x160_S1x160_S1x160_S8x160_d0

/-- A row of the stack. -/
theorem stacked_at (u0 u1 u2 u3 u4 u5 u6 u7 : FVec Ideal S1x160 .f32) (f : Fin 8 → Fin 160 → EReal)
    (h0 : ∀ v, u0 (ix2 0 v) = f 0 v) (h1 : ∀ v, u1 (ix2 0 v) = f 1 v) (h2 : ∀ v, u2 (ix2 0 v) = f 2 v) (h3 : ∀ v, u3 (ix2 0 v) = f 3 v)
    (h4 : ∀ v, u4 (ix2 0 v) = f 4 v) (h5 : ∀ v, u5 (ix2 0 v) = f 5 v) (h6 : ∀ v, u6 (ix2 0 v) = f 6 v) (h7 : ∀ v, u7 (ix2 0 v) = f 7 v)
    (r : Fin 8) (v : Fin 160) : stacked u0 u1 u2 u3 u4 u5 u6 u7 (ix2 r v) = f r v := by
  have e : ∀ r : Fin 8, r = 0 ∨ r = 1 ∨ r = 2 ∨ r = 3 ∨ r = 4 ∨ r = 5 ∨ r = 6 ∨ r = 7 := by decide
  rcases e r with rfl | rfl | rfl | rfl | rfl | rfl | rfl | rfl
  · rw [← h0]; pointwise [stacked]
  · rw [← h1]; pointwise [stacked]
  · rw [← h2]; pointwise [stacked]
  · rw [← h3]; pointwise [stacked]
  · rw [← h4]; pointwise [stacked]
  · rw [← h5]; pointwise [stacked]
  · rw [← h6]; pointwise [stacked]
  · rw [← h7]; pointwise [stacked]

/-- The masked sum of the rows and the common bias. -/
theorem pay24_at (v2 : FVec Ideal S128x160 .f32) (u0 u1 u2 u3 u4 u5 : FVec Ideal S1x160 .f32) (m6 : FVec Ideal S16x160 .f32)
    (b6 b7 : FVec Ideal S1x16 .f32) (bU : FVec Ideal S1x256 .f32) (WV : FVec Ideal S256x160 .f32) (bV : FVec Ideal S1x160 .f32)
    (k : FVec Ideal S64x8 .f32) (f : Fin 8 → Fin 160 → EReal)
    (h0 : ∀ v, u0 (ix2 0 v) = f 0 v) (h1 : ∀ v, u1 (ix2 0 v) = f 1 v) (h2 : ∀ v, u2 (ix2 0 v) = f 2 v) (h3 : ∀ v, u3 (ix2 0 v) = f 3 v)
    (h4 : ∀ v, u4 (ix2 0 v) = f 4 v) (h5 : ∀ v, u5 (ix2 0 v) = f 5 v)
    (h6 : ∀ v, (∑ c : Fin 16, b6 (ix2 0 c) * m6 (ix2 c v) : EReal) = f 6 v)
    (h7 : ∀ v, (∑ c : Fin 16, b7 (ix2 0 c) * k0_pay22 v2 (ix2 c v) : EReal) = f 7 v) (b : Fin 64) (v : Fin 160) :
    k0_pay24 v2 u0 u1 u2 u3 u4 u5 m6 b6 b7 bU WV bV k (ix2 b v)
      = (∑ r : Fin 8, k (ix2 b r) * f r v + (∑ h : Fin 256, bU (ix2 0 h) * WV (ix2 h v) + bV (ix2 0 v)) : EReal) := by
  have e : k0_pay24 v2 u0 u1 u2 u3 u4 u5 m6 b6 b7 bU WV bV k
      = addf (matmul dot_S64x8_S8x160_S64x160_1_0_0_1_n_n none (shapeCast S64x8 k shapeCasts_S64x8_S64x8)
          (stacked u0 u1 u2 u3 u4 u5 (matmul dot_S1x16_S16x160_S1x160_1_0_0_1_n_n none b6 m6 (constant S1x160 .f32 0x00000000#32))
            (matmul dot_S1x16_S16x160_S1x160_1_0_0_1_n_n none b7 (k0_pay22 v2) (constant S1x160 .f32 0x00000000#32)))
          (constant S64x160 .f32 0x00000000#32))
        (broadcastTo S64x160 (addf (matmul dot_S1x256_S256x160_S1x160_1_0_0_1_n_n none (shapeCast S1x256 bU shapeCasts_S1x256_S1x256) WV
          (constant S1x160 .f32 0x00000000#32)) (shapeCast S1x160 bV shapeCasts_S1x160_S1x160)) broadcasts_S1x160_S64x160) := rfl
  rw [e]
  have hs := stacked_at u0 u1 u2 u3 u4 u5 (matmul dot_S1x16_S16x160_S1x160_1_0_0_1_n_n none b6 m6 (constant S1x160 .f32 0x00000000#32))
    (matmul dot_S1x16_S16x160_S1x160_1_0_0_1_n_n none b7 (k0_pay22 v2) (constant S1x160 .f32 0x00000000#32)) f h0 h1 h2 h3 h4 h5
    (fun v => by rw [← h6]; pointwise) (fun v => by rw [← h7]; pointwise)
  generalize stacked _ _ _ _ _ _ _ _ = z at hs ⊢
  simp only [← hs]
  pointwise

/-- The biases' block. -/
theorem out0_8_at (x0 : Vec Ideal S64x8 .f32) (w : Vec Ideal S8x32x16 .f32) (s : Vec Ideal S8x16 .f32) (WU : Vec Ideal S128x256 .f32)
    (bU : Vec Ideal S1x256 .f32) (WV : Vec Ideal S256x160 .f32) (bV : Vec Ideal S1x160 .f32) (y : S64x160.Idx) :
    out0_8 x0 w s WU bU WV bV y = biases x0 s WU bU WV bV y := by
  obtain ⟨b, v, rfl⟩ : ∃ b v, y = ix2 b v := ⟨_, _, eq_ix2 y⟩
  unfold biases
  unfold out0_8
  frame_out
  refine pay24_at _ _ _ _ _ _ _ _ _ _ _ _ _ _ (biasAt s WU WV) ?_ ?_ ?_ ?_ ?_ ?_ ?_ ?_ b v
  all_goals (intro v; unfold biasAt)
  · pointwise [k0_pay4, k0_pay2, k0_pay1]; blk_point [feature]
  · pointwise [k0_pay7, k0_pay5, k0_pay1]; blk_point [feature]
  · pointwise [k0_pay10, k0_pay8, k0_pay1]; blk_point [feature]
  · pointwise [k0_pay13, k0_pay11, k0_pay25, k0_pay1]; blk_point [feature]
  · pointwise [k0_pay16, k0_pay14, k0_pay25, k0_pay1]; blk_point [feature]
  · pointwise [k0_pay19, k0_pay17, k0_pay25, k0_pay1]; blk_point [feature]
  · pointwise [k0_pay26, k0_pay20, k0_pay25, k0_pay1]; blk_point [feature]
  · pointwise [k0_pay22, k0_pay25, k0_pay1]; blk_point [feature]

/-- Every window's block is its whole array. -/
theorem idx0 : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

variable (V : (c : Dev nD) → (b : Ref sig .tc) → Buf (Elt Ideal) ((c : Thread nD τ).loc b))

/-- The matrix after the call. -/
theorem final0_7 (c : Dev nD) : (dat0 V c).arrAt 7 cfg0.N = matrix (V c main_arg3) (V c main_arg5) (V c main_arg7) := by
  refine (dat0 V c).arrAt_eq_of_after_last 7 t0_0 (by decide +kernel) _ fun j => ?_
  blk_simp
  rw [after0_7]
  refine (out0_7_at _ _ _ _ _ _ _ j).trans ?_
  unfold matrix
  blk_point [iblk0, idx0 t0_0]

/-- The biases after the call. -/
theorem final0_8 (c : Dev nD) : (dat0 V c).arrAt 8 cfg0.N
    = biases (V c main_v12) (V c main_arg4) (V c main_arg5) (V c main_v15) (V c main_arg7) (V c main_v16) := by
  refine (dat0 V c).arrAt_eq_of_after_last 8 t0_0 (by decide +kernel) _ fun j => ?_
  blk_simp
  rw [after0_8]
  refine (out0_8_at _ _ _ _ _ _ _ j).trans ?_
  unfold biases biasAt
  blk_point [iblk0, idx0 t0_0]

end Cert.KernelIdeal.Hand

end
-- ==== Proof.KernelRegion1.lean ====
/- What the second call leaves: every row's masked product with the folded matrix. -/
module

public import proofs.«01_k».proof.Proof.Gen.KernelIdeal.Frame
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-- A row's product at one output feature. -/
def rowProduct (x : FVec Ideal S64x2048x256 .f32) (k : FVec Ideal S64x1x256 .f32) (s : FVec Ideal S64x1x160 .f32)
    (A : FVec Ideal S256x160 .bf16) : FVec Ideal S64x2048x160 .f32 := fun j =>
  ∑ n : Fin 256, x (ix3 (j 0) (j 1) n) * k (ix3 (j 0) 0 n) * A (ix2 n (j 2)) + s (ix3 (j 0) 0 (j 2))

/-- One point's block of four sequences. -/
theorem out1_4_at (x : Vec Ideal S4x2048x256 .f32) (k : Vec Ideal S4x1x256 .f32) (s : Vec Ideal S4x1x160 .f32) (A : Vec Ideal S256x160 .bf16)
    (y : S4x2048x160.Idx) :
    out1_4 x k s A y = ((∑ n : Fin 256, x (ix3 (y 0) (y 1) n) * k (ix3 (y 0) 0 n) * A (ix2 n (y 2)) + s (ix3 (y 0) 0 (y 2)) : EReal)) := by
  canon_tiles x h
  all_goals (open_payloads; pointwise; blk_point [])

/-- Where each window's block lies. -/
theorem idx1 : ∀ t : Fin cfg1.N, win1_0.index t = ![t.val, 0, 0] ∧ win1_1.index t = ![t.val, 0, 0] ∧ win1_2.index t = ![t.val, 0, 0]
    ∧ win1_3.index t = ![0, 0] ∧ win1_4.index t = ![t.val, 0, 0] :=
  (by decide +kernel : ∀ t : Fin grid1.N, _)

variable (V : (c : Dev nD) → (b : Ref sig .tc) → Buf (Elt Ideal) ((c : Thread nD τ).loc b))

/-- The whole array after the call. -/
theorem final1 (c : Dev nD) : (dat1 V c).arrAt 4 cfg1.N
    = rowProduct (V c main_arg0) (V c main_v18) (V c main_v19) (V c main_v17_0) := by
  refine (dat1 V c).arrAt_eq_of_covers 4 _ (by decide +kernel) fun t _ y => ?_
  blk_simp
  rw [after1_4]
  refine (out1_4_at _ _ _ _ y).trans ?_
  unfold rowProduct
  blk_point [iblk1, idx1 t]

end Cert.KernelIdeal.Hand

end
-- ==== Proof.RefReads.lean ====
/- What the reference's operations leave in the buffers that its result is made of. -/
module

public import proofs.«01_k».proof.Proof.RefRun2
public import proofs.«01_k».proof.Proof.RefTerms
public import Idealize.ShloMosaic.Lib.StableHlo.RunRead

@[expose] public section

set_option maxRecDepth 16384

noncomputable section

namespace Cert.ReferenceIdeal.Hand

open Idealize.ShloMosaic Idealize.ShloMosaic.StableHlo Idealize.SL.Sem
open Cert.ReferenceIdeal

variable {F : FTy → Type} [FloatOps F]

set_option maxHeartbeats 4000000 in
/-- The six selected regions. -/
theorem opsZ_v43 (V : (b : DevRef τ sig) → b.ty.Contents (Elt F)) :
    after (opsZ (F := F)) V (Proc.devRef .tc main_v43) = along6 (V (Proc.devRef .tc main_v30)) (start6 (keptPlaces (shuffled (V (Proc.devRef .tc main_v38))))) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold along6 start6 keptPlaces shuffled
  refine congrArg₂ _ ?_ rfl
  refine congrArg₂ _ ?_ ?_
  · rfl
  · rfl
set_option maxHeartbeats 4000000 in
/-- The six regions and two of zeros. -/
theorem opsZ_v46 (V : (b : DevRef τ sig) → b.ty.Contents (Elt F)) :
    after (opsZ (F := F)) V (Proc.devRef .tc main_v46) = padded (after (opsZ (F := F)) V (Proc.devRef .tc main_v43)) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  rw [show (fun x y => concatenate S64x2048x8x16 2 [⟨S64x2048x6x16, x⟩, ⟨S64x2048x2x16, y⟩] _) = joined (F := F) from rfl]
  after_reads_simp
  try simp only [TRef.ofBuf_toBuf]
  try dsimp only [TRef.ofBuf, TRef.toBuf, TRef.of, cast]
  unfold padded
  rfl
set_option maxHeartbeats 4000000 in
/-- The places the regions go back to. -/
theorem opsZ_v48 (V : (b : DevRef τ sig) → b.ty.Contents (Elt F)) :
    after (opsZ (F := F)) V (Proc.devRef .tc main_v48) = restoredPlaces (restored (shuffled (V (Proc.devRef .tc main_v38)))) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold restoredPlaces restored shuffled
  rfl
set_option maxHeartbeats 4000000 in
/-- The regions put back. -/
theorem opsZ_v49 (V : (b : DevRef τ sig) → b.ty.Contents (Elt F)) :
    after (opsZ (F := F)) V (Proc.devRef .tc main_v49) = along8 (after (opsZ (F := F)) V (Proc.devRef .tc main_v46)) (start8 (after (opsZ (F := F)) V (Proc.devRef .tc main_v48))) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold along8 start8
  refine congrArg₂ _ ?_ rfl
  refine congrArg₂ _ ?_ ?_
  · rfl
  · rfl
set_option maxHeartbeats 4000000 in
/-- The two dense layers of the regions put back. -/
theorem opsZ_v58 (V : (b : DevRef τ sig) → b.ty.Contents (Elt F)) :
    after (opsZ (F := F)) V (Proc.devRef .tc main_v58) = dense (after (opsZ (F := F)) V (Proc.devRef .tc main_v49)) (V (Proc.devRef .tc main_arg5)) (V (Proc.devRef .tc main_arg6)) (V (Proc.devRef .tc main_arg7)) (V (Proc.devRef .tc main_arg8)) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold dense
  rfl
set_option maxHeartbeats 4000000 in
/-- How many neurons an area owns up to each. -/
theorem opsA_v9 (V : (b : DevRef τ sig) → b.ty.Contents (Elt F)) :
    after (opsA (F := F)) V (Proc.devRef .tc main_v9) = rank (inArea (V (Proc.devRef .tc main_arg1))) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold rank inArea
  rfl
set_option maxHeartbeats 4000000 in
/-- The number of each area's k-th neuron. -/
theorem opsA_v24 (V : (b : DevRef τ sig) → b.ty.Contents (Elt F)) :
    after (opsA (F := F)) V (Proc.devRef .tc main_v24) = neuronMask (kth (inArea (V (Proc.devRef .tc main_arg1))) (after (opsA (F := F)) V (Proc.devRef .tc main_v9))) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold neuronMask kth inArea
  rfl
set_option maxHeartbeats 4000000 in
/-- The spikes of the numbered neurons. -/
theorem opsA_v25 (V : (b : DevRef τ sig) → b.ty.Contents (Elt F)) :
    after (opsA (F := F)) V (Proc.devRef .tc main_v25) = take (V (Proc.devRef .tc main_arg0)) (takeStart (after (opsA (F := F)) V (Proc.devRef .tc main_v24))) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold take takeIn takeStart
  refine congrArg₂ _ ?_ rfl
  refine congrArg₂ _ ?_ ?_
  · rfl
  · rfl
set_option maxHeartbeats 4000000 in
/-- Each region's own layer. -/
theorem opsA_v30 (V : (b : DevRef τ sig) → b.ty.Contents (Elt F)) :
    after (opsA (F := F)) V (Proc.devRef .tc main_v30) = embed (V (Proc.devRef .tc main_arg3)) (after (opsA (F := F)) V (Proc.devRef .tc main_v25)) (V (Proc.devRef .tc main_arg4)) := by
  dsimp only [opsA, opsZ, opsAll, mainOps0, mainOps1, cumsumOps, cumsum0Ops, whereOps, where1Ops, takeOps, uniformOps, threefryOps, threefryOps0,
    threefryOps1, threefryOps2, threefryOps3, argsortOps, argsort2Ops, alongOps, along3Ops, List.cons_append, List.nil_append, List.drop_succ_cons, List.drop_zero, List.take_succ_cons, List.take_zero]
  after_reads_simp
  try simp only [TRef.ofBuf_toBuf]
  try dsimp only [TRef.ofBuf, TRef.toBuf, TRef.of, cast]
  unfold embed
  rfl
end Cert.ReferenceIdeal.Hand

end
-- ==== Proof.RefResult.lean ====
/- The reference's result as one expression of its arguments and the noise. -/
module

public import proofs.«01_k».proof.Proof.RefReads
public import proofs.«01_k».proof.Proof.RefFrame

@[expose] public section

set_option maxRecDepth 16384

noncomputable section

namespace Cert.ReferenceIdeal.Hand

open Idealize.ShloMosaic Idealize.ShloMosaic.StableHlo Idealize.SL.Sem
open Cert.ReferenceIdeal

variable {F : FTy → Type} [FloatOps F]

/-- What two lines leave, one after the other. -/
theorem after_both (l₁ l₂ : List (HloOp τ sig (Elt F))) (V : Valuation τ sig (Elt F)) :
    after (l₁ ++ l₂) V = after l₂ (after l₁ V) := by
  induction l₁ generalizing V with
  | nil => rfl
  | cons op l ih => exact ih _

/-- The embedded regions. -/
def embedded (x : FVec F S64x2048x256 .f32) (nr : IVec S64x256 32) (W : FVec F S8x32x16 .f32) (b : FVec F S8x16 .f32) :
    FVec F S64x2048x8x16 .f32 :=
  embed W (take x (takeStart (neuronMask (kth (inArea nr) (rank (inArea nr)))))) b

/-- The embedded regions with the dropped ones zeroed, by selecting six and putting eight back. -/
def masked (e : FVec F S64x2048x8x16 .f32) (noise : FVec F S64x8 .f32) : FVec F S64x2048x8x16 .f32 :=
  along8 (padded (along6 e (start6 (keptPlaces (shuffled noise))))) (start8 (restoredPlaces (restored (shuffled noise))))

/-- The buffers the draw writes, in order. -/
abbrev drawn : List (Ref sig .tc) :=
  (List.finRange 262).map fun i => (⟨.hbm, ⟨82 + i.1, by have := i.2; show 82 + i.1 < 411; omega⟩, rfl⟩ : Ref sig .tc)

set_option maxHeartbeats 4000000 in
/-- Each operation of the draw writes its own buffer. -/
theorem opsU_writes : (opsU (F := F)).Forall fun op => op.writes ⊆ (drawn.map (Proc.devRef (τ := τ) .tc)).toFinset :=
  forall_writes_sub_of_map rfl

/-- The draw keeps what was there before it. -/
theorem opsU_kept (V : Valuation τ sig (Elt F)) {r : Ref sig .tc} (hr : r.idx.val < 82) :
    after (opsU (F := F)) V (Proc.devRef .tc r) = V (Proc.devRef .tc r) :=
  after_of_writes_sub opsU V opsU_writes fun h => by
    obtain ⟨i, -, rfl⟩ := List.mem_map.1 h
    exact absurd hr (by show ¬ 82 + i.1 < 82; omega)

/-- The buffers written before the draw, in order. -/
abbrev before : List (Ref sig .tc) :=
  (List.finRange 73).map fun i => (⟨.hbm, ⟨9 + i.1, by have := i.2; show 9 + i.1 < 411; omega⟩, rfl⟩ : Ref sig .tc)

set_option maxHeartbeats 4000000 in
/-- Each operation before the draw writes its own buffer. -/
theorem opsA_writes : (opsA (F := F)).Forall fun op => op.writes ⊆ (before.map (Proc.devRef (τ := τ) .tc)).toFinset :=
  forall_writes_sub_of_map rfl

/-- The operations before the draw keep the arguments. -/
theorem opsA_kept (V : Valuation τ sig (Elt F)) {r : Ref sig .tc} (hr : r.idx.val < 9) :
    after (opsA (F := F)) V (Proc.devRef .tc r) = V (Proc.devRef .tc r) :=
  after_of_writes_sub opsA V opsA_writes fun h => by
    obtain ⟨i, -, rfl⟩ := List.mem_map.1 h
    exact absurd hr (by show ¬ 9 + i.1 < 9; omega)

/-- The noise the reference draws. -/
def noise (V : Valuation τ sig (Elt F)) : FVec F S64x8 .f32 := after (opsU (F := F)) (after (opsA (F := F)) V) (Proc.devRef .tc main_v38)

/-- The reference's result. -/
theorem opsAll_result (V : Valuation τ sig (Elt F)) :
    after (opsAll (F := F)) V (Proc.devRef .tc main_v58) =
      dense (masked (embedded (V (Proc.devRef .tc main_arg0)) (V (Proc.devRef .tc main_arg1)) (V (Proc.devRef .tc main_arg3)) (V (Proc.devRef .tc main_arg4))) (noise V))
        (V (Proc.devRef .tc main_arg5)) (V (Proc.devRef .tc main_arg6)) (V (Proc.devRef .tc main_arg7)) (V (Proc.devRef .tc main_arg8)) := by
  rw [opsAll_cut, after_both, after_both, opsZ_v58, opsZ_v49, opsZ_v48, opsZ_v46, opsZ_v43,
    opsU_kept _ (r := main_v30) (by decide), opsU_kept _ (r := main_arg5) (by decide), opsU_kept _ (r := main_arg6) (by decide),
    opsU_kept _ (r := main_arg7) (by decide), opsU_kept _ (r := main_arg8) (by decide),
    opsA_kept _ (r := main_arg5) (by decide), opsA_kept _ (r := main_arg6) (by decide),
    opsA_kept _ (r := main_arg7) (by decide), opsA_kept _ (r := main_arg8) (by decide),
    opsA_v30, opsA_v25, opsA_v24, opsA_v9]
  rfl

end Cert.ReferenceIdeal.Hand

end
-- ==== Proof.RefGather.lean ====
/- What the reference's selections read. -/
module

public import proofs.«01_k».proof.Proof.RefTerms
public import Idealize.ShloMosaic.Lib.Pointwise.Index
public import Idealize.ShloMosaic.Lib.Pointwise
public import Idealize.ShloMosaic.Lib.StableHlo.Predicate
public import Idealize.ShloMosaic.Lib.ReduceAll

@[expose] public section

set_option maxRecDepth 16384

noncomputable section

namespace Cert.ReferenceIdeal.Hand

open Idealize.ShloMosaic
open Cert.ReferenceIdeal Cert.ReferenceIdeal.Facts₀ Cert.ReferenceIdeal.Facts

/-- The signed reading of a small word, held below a bound above it. -/
theorem clamped {k N : Nat} (hk : k ≤ N) (hN : N < 2 ^ 31) : min (BitVec.ofNat 32 k).toInt.toNat N = k := by
  rw [StableHlo.Predicate.toInt_ofNat_small _ (by omega)]
  show min ((k : Int)).toNat N = k
  omega

/-- The neurons' selection reads the neuron its start index names. -/
theorem take_read {α : Type} (x : S64x2048x256.Idx → α) (i : IVec S8x32x1 32) (b : Fin 64) (t : Fin 2048) (a : Fin 8) (k : Fin 32)
    (n : Fin 256) (hn : i (ix3 a k 0) = BitVec.ofNat 32 n.1) :
    Host.gather gather_S64x2048x256_S8x32x1_S64x2048x8x32_01_2_n_n_2_2_6420481 x i (ix4 b t a k) = x (ix3 b t n) := by
  unfold Host.gather
  refine congrArg x (funext fun c => Fin.ext ?_)
  match c with
  | ⟨0, _⟩ => exact Nat.zero_add _
  | ⟨1, _⟩ => exact Nat.zero_add _
  | ⟨2, _⟩ =>
    have hsi : gather_S64x2048x256_S8x32x1_S64x2048x8x32_01_2_n_n_2_2_6420481.siIdx (ix4 b t a k) ⟨0, Nat.one_pos⟩ = ix3 a k 0 := by
      funext c
      match c with
      | ⟨0, _⟩ => rfl
      | ⟨1, _⟩ => rfl
      | ⟨2, _⟩ => rfl
    show min (i (gather_S64x2048x256_S8x32x1_S64x2048x8x32_01_2_n_n_2_2_6420481.siIdx (ix4 b t a k) ⟨0, Nat.one_pos⟩)).toInt.toNat 255 = n.1
    rw [hsi, hn]
    exact clamped (by omega) (by decide)

/-- The selection of six regions reads the region its start index names. -/
theorem along6_read {α : Type} (x : S64x2048x8x16.Idx → α) (i : IVec S64x2048x6x16x1 32) (b : Fin 64) (t : Fin 2048) (r : Fin 6) (c : Fin 16)
    (n : Fin 8) (hn : i (ix5 b t r c 0) = BitVec.ofNat 32 n.1) :
    Host.gather gather_S64x2048x8x16_S64x2048x6x16x1_S64x2048x6x16_n_2_013_013_2_4_1111 x i (ix4 b t r c) = x (ix4 b t n c) := by
  unfold Host.gather
  refine congrArg x (funext fun e => Fin.ext ?_)
  match e with
  | ⟨0, _⟩ => exact Nat.zero_add _
  | ⟨1, _⟩ => exact Nat.zero_add _
  | ⟨2, _⟩ =>
    have hsi : gather_S64x2048x8x16_S64x2048x6x16x1_S64x2048x6x16_n_2_013_013_2_4_1111.siIdx (ix4 b t r c) ⟨0, Nat.one_pos⟩ = ix5 b t r c 0 := by
      funext e
      match e with
      | ⟨0, _⟩ => rfl
      | ⟨1, _⟩ => rfl
      | ⟨2, _⟩ => rfl
      | ⟨3, _⟩ => rfl
      | ⟨4, _⟩ => rfl
    show min (i (gather_S64x2048x8x16_S64x2048x6x16x1_S64x2048x6x16_n_2_013_013_2_4_1111.siIdx (ix4 b t r c) ⟨0, Nat.one_pos⟩)).toInt.toNat 7 = n.1
    rw [hsi, hn]
    exact clamped (by omega) (by decide)
  | ⟨3, _⟩ => exact Nat.zero_add _

/-- The restoring selection reads the region its start index names. -/
theorem along8_read {α : Type} (x : S64x2048x8x16.Idx → α) (i : IVec S64x2048x8x16x1 32) (b : Fin 64) (t : Fin 2048) (r : Fin 8) (c : Fin 16)
    (n : Fin 8) (hn : i (ix5 b t r c 0) = BitVec.ofNat 32 n.1) :
    Host.gather gather_S64x2048x8x16_S64x2048x8x16x1_S64x2048x8x16_n_2_013_013_2_4_1111 x i (ix4 b t r c) = x (ix4 b t n c) := by
  unfold Host.gather
  refine congrArg x (funext fun e => Fin.ext ?_)
  match e with
  | ⟨0, _⟩ => exact Nat.zero_add _
  | ⟨1, _⟩ => exact Nat.zero_add _
  | ⟨2, _⟩ =>
    have hsi : gather_S64x2048x8x16_S64x2048x8x16x1_S64x2048x8x16_n_2_013_013_2_4_1111.siIdx (ix4 b t r c) ⟨0, Nat.one_pos⟩ = ix5 b t r c 0 := by
      funext e
      match e with
      | ⟨0, _⟩ => rfl
      | ⟨1, _⟩ => rfl
      | ⟨2, _⟩ => rfl
      | ⟨3, _⟩ => rfl
      | ⟨4, _⟩ => rfl
    show min (i (gather_S64x2048x8x16_S64x2048x8x16x1_S64x2048x8x16_n_2_013_013_2_4_1111.siIdx (ix4 b t r c) ⟨0, Nat.one_pos⟩)).toInt.toNat 7 = n.1
    rw [hsi, hn]
    exact clamped (by omega) (by decide)
  | ⟨3, _⟩ => exact Nat.zero_add _

/-- A small word is not negative. -/
theorem not_negative {k : Nat} (hk : k < 2 ^ 31) (y : BitVec 32) :
    Scalar.select (IntOp.cmpi .slt (BitVec.ofNat 32 k) 0#32) y (BitVec.ofNat 32 k) = BitVec.ofNat 32 k := by
  have h : (IntOp.cmpi .slt (BitVec.ofNat 32 k) 0#32) = 0#1 := by
    unfold IntOp.cmpi
    have : (BitVec.ofNat 32 k).slt 0#32 = false := by
      rw [BitVec.slt_eq_decide, StableHlo.Predicate.toInt_ofNat_small k hk]
      simp
    rw [this]; rfl
  rw [h]; rfl

/-- A small word is at least zero and at most a bound above it. -/
theorem in_range {k N : Nat} (hk : k ≤ N) (hN : N < 2 ^ 31) :
    IntOp.andi (IntOp.cmpi .sge (BitVec.ofNat 32 k) 0#32) (IntOp.cmpi .sle (BitVec.ofNat 32 k) (BitVec.ofNat 32 N)) = 1#1 := by
  have h1 : IntOp.cmpi .sge (BitVec.ofNat 32 k) 0#32 = 1#1 := by
    unfold IntOp.cmpi
    have : (0#32 : BitVec 32).sle (BitVec.ofNat 32 k) = true := by
      rw [BitVec.sle_eq_decide, StableHlo.Predicate.toInt_ofNat_small k (by omega)]
      simp
    simp [this]
  have h2 : IntOp.cmpi .sle (BitVec.ofNat 32 k) (BitVec.ofNat 32 N) = 1#1 := by
    unfold IntOp.cmpi
    have : (BitVec.ofNat 32 k).sle (BitVec.ofNat 32 N) = true := by
      rw [BitVec.sle_eq_decide, StableHlo.Predicate.toInt_ofNat_small _ (by omega), StableHlo.Predicate.toInt_ofNat_small _ hN]
      simpa using hk
    simp [this]
  rw [h1, h2]; rfl

variable {F : FTy → Type} [FloatOps F]

/-- The spikes taken by a table of neuron numbers. -/
theorem take_at (x : FVec F S64x2048x256 .f32) (i : IVec S8x32 32) (f : Fin 8 → Fin 32 → Fin 256)
    (hi : ∀ a k, i (ix2 a k) = BitVec.ofNat 32 (f a k).1) (b : Fin 64) (t : Fin 2048) (a : Fin 8) (k : Fin 32) :
    take x (takeStart i) (ix4 b t a k) = x (ix3 b t (f a k)) := by
  have hs : ∀ a k, takeStart i (ix3 a k 0) = BitVec.ofNat 32 (f a k).1 := by
    intro a k
    have h : takeStart i (ix3 a k 0) = Scalar.select (IntOp.cmpi .slt (i (ix2 a k)) 0#32) (IntOp.addi (i (ix2 a k)) 256#32) (i (ix2 a k)) := by
      unfold takeStart
      pointwise
    rw [h, hi]
    exact not_negative (by omega) _
  have hin : ∀ j, takeIn (takeStart i) j = 1#1 := by
    intro j
    unfold takeIn
    refine Host.reduce_andi_one _ _ _ _ j rfl ?_
    intro m
    obtain ⟨a, k, z, rfl⟩ : ∃ a k z, m = ix3 a k z := ⟨_, _, _, eq_ix3 m⟩
    obtain rfl : z = 0 := Subsingleton.elim _ _
    show IntOp.andi (IntOp.cmpi .sge (takeStart i (ix3 a k 0)) 0#32) (IntOp.cmpi .sle (takeStart i (ix3 a k 0)) 255#32) = 1#1
    rw [hs]
    exact in_range (N := 255) (by omega) (by decide)
  show Scalar.select (takeIn (takeStart i) _) _ _ = _
  rw [hin, take_read x _ b t a k (f a k) (hs a k)]
  rfl

/-- Six regions selected by a table of places. -/
theorem along6_at (x : FVec F S64x2048x8x16 .f32) (i : IVec S64x2048x6x16 32) (b : Fin 64) (t : Fin 2048) (r : Fin 6) (c : Fin 16)
    (f : Fin 64 → Fin 6 → Fin 8) (hi : ∀ b t r c, i (ix4 b t r c) = BitVec.ofNat 32 (f b r).1) :
    along6 x (start6 i) (ix4 b t r c) = x (ix4 b t (f b r) c) := by
  have hs : ∀ b t r c, start6 i (ix5 b t r c 0) = BitVec.ofNat 32 (f b r).1 := by
    intro b t r c
    have h : start6 i (ix5 b t r c 0) = Scalar.select (IntOp.cmpi .slt (i (ix4 b t r c)) 0#32) (IntOp.addi (i (ix4 b t r c)) 8#32) (i (ix4 b t r c)) := by
      unfold start6
      pointwise
    rw [h, hi]
    exact not_negative (by omega) _
  have hin : ∀ j, Host.reduce IntOp.andi
      (andi (cmpi .sge (start6 i) (broadcastInDim S64x2048x6x16x1 ![] bcast_S_S64x2048x6x16x1 (constantI S_ 32 0#32)))
        (cmpi .sle (start6 i) (broadcastInDim S64x2048x6x16x1 ![0, 1, 2, 3, 4] bcast_S1x1x1x1x1_S64x2048x6x16x1_0_1_2_3_4
          (broadcastInDim S1x1x1x1x1 ![4] bcast_S1_S1x1x1x1x1_4 (constantI S1 32 7#32)))))
      (constantI S_ 1 1#1) reducesTo_S64x2048x6x16x1_S64x2048x6x16_d4 h_S_ j = 1#1 := by
    intro j
    refine Host.reduce_andi_one _ _ _ _ j rfl ?_
    intro m
    obtain ⟨b, t, r, c, z, rfl⟩ : ∃ b t r c z, m = ix5 b t r c z := ⟨_, _, _, _, _, eq_ix5 m⟩
    obtain rfl : z = 0 := Subsingleton.elim _ _
    show IntOp.andi (IntOp.cmpi .sge (start6 i (ix5 b t r c 0)) 0#32) (IntOp.cmpi .sle (start6 i (ix5 b t r c 0)) 7#32) = 1#1
    rw [hs]
    exact in_range (N := 7) (by omega) (by decide)
  unfold along6
  show Scalar.select (Host.reduce _ _ _ _ _ _) _ _ = _
  rw [hin, along6_read x _ b t r c (f b r) (hs b t r c)]
  rfl

/-- Eight regions selected by a table of places. -/
theorem along8_at (x : FVec F S64x2048x8x16 .f32) (i : IVec S64x2048x8x16 32) (b : Fin 64) (t : Fin 2048) (r : Fin 8) (c : Fin 16)
    (f : Fin 64 → Fin 8 → Fin 8) (hi : ∀ b t r c, i (ix4 b t r c) = BitVec.ofNat 32 (f b r).1) :
    along8 x (start8 i) (ix4 b t r c) = x (ix4 b t (f b r) c) := by
  have hs : ∀ b t r c, start8 i (ix5 b t r c 0) = BitVec.ofNat 32 (f b r).1 := by
    intro b t r c
    have h : start8 i (ix5 b t r c 0) = Scalar.select (IntOp.cmpi .slt (i (ix4 b t r c)) 0#32) (IntOp.addi (i (ix4 b t r c)) 8#32) (i (ix4 b t r c)) := by
      unfold start8
      pointwise
    rw [h, hi]
    exact not_negative (by omega) _
  have hin : ∀ j, Host.reduce IntOp.andi
      (andi (cmpi .sge (start8 i) (broadcastInDim S64x2048x8x16x1 ![] bcast_S_S64x2048x8x16x1 (constantI S_ 32 0#32)))
        (cmpi .sle (start8 i) (broadcastInDim S64x2048x8x16x1 ![0, 1, 2, 3, 4] bcast_S1x1x1x1x1_S64x2048x8x16x1_0_1_2_3_4
          (broadcastInDim S1x1x1x1x1 ![4] bcast_S1_S1x1x1x1x1_4 (constantI S1 32 7#32)))))
      (constantI S_ 1 1#1) reducesTo_S64x2048x8x16x1_S64x2048x8x16_d4 h_S_ j = 1#1 := by
    intro j
    refine Host.reduce_andi_one _ _ _ _ j rfl ?_
    intro m
    obtain ⟨b, t, r, c, z, rfl⟩ : ∃ b t r c z, m = ix5 b t r c z := ⟨_, _, _, _, _, eq_ix5 m⟩
    obtain rfl : z = 0 := Subsingleton.elim _ _
    show IntOp.andi (IntOp.cmpi .sge (start8 i (ix5 b t r c 0)) 0#32) (IntOp.cmpi .sle (start8 i (ix5 b t r c 0)) 7#32) = 1#1
    rw [hs]
    exact in_range (N := 7) (by omega) (by decide)
  unfold along8
  show Scalar.select (Host.reduce _ _ _ _ _ _) _ _ = _
  rw [hin, along8_read x _ b t r c (f b r) (hs b t r c)]
  rfl

end Cert.ReferenceIdeal.Hand

end
-- ==== Proof.Domain.lean ====
/- What the precondition says: the first sequence's neurons are in area order, and five inputs are finite. -/
module

public import proofs.«01_k».proof.Pre_in_order_and_finite
public import proofs.«01_k».proof.Proof.Gen.Pre_in_order_and_finite
public import Idealize.ShloMosaic.PureOps.Ideal
public import Idealize.ShloMosaic.Lib.ReduceAll
public import Idealize.ShloMosaic.Lib.StableHlo.Predicate
public import Idealize.ShloMosaic.Lib.Pointwise
public import Idealize.ShloMosaic.Lib.Pointwise.Index

@[expose] public section

set_option maxRecDepth 16384

noncomputable section

namespace Cert.Domain

open Idealize.ShloMosaic
open Cert.Pre_in_order_and_finite

/-- Every element is a real number. -/
def Real {s : Shape} (x : FVec Ideal s .f32) : Prop := ∀ i, (x i : EReal) ≠ ⊤ ∧ (x i : EReal) ≠ ⊥

/-- The first sequence's table lists 32 neurons of each area, area after area. -/
def InOrder (nr : IVec S64x256 32) : Prop := ∀ n : Fin 256, nr (ix2 0 n) = BitVec.ofNat 32 (n.1 / 32)

instance : Subsingleton S_.Idx := ⟨fun a b => funext fun k => k.elim0⟩

/-- An array all of whose magnitudes compare below infinity is of real numbers. -/
theorem real_of {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu = fun _ => 1#1) : Real x := by
  intro i
  have e := Host.reduce_andi_all _ _ hr hu (Shape.Idx.first hu) (congrFun h _) i
  have htop : Ideal.ofBits .f32 0x7F800000#32 = ⊤ := by simp [Ideal.ofBits, Ideal.ieee]
  have e' : Ideal.cmp .olt (max (x i : EReal) (-(x i : EReal))) (Ideal.ofBits .f32 0x7F800000#32) = 1#1 := e
  rw [htop] at e'
  have hl : max (x i : EReal) (-(x i : EReal)) < ⊤ := by
    unfold Ideal.cmp at e'
    by_contra hn
    simp [hn] at e'
  rw [max_lt_iff] at hl
  exact ⟨lt_top_iff_ne_top.1 hl.1, fun hb => by rw [hb] at hl; simp at hl⟩

/-- The quotient of a neuron's number by 32. -/
theorem quotient (n : Fin 256) :
    fn_floor_divide (F := Ideal) (iotaInDim S256 32 0) (constantI S_ 32 32#32) (ix1 n) = BitVec.ofNat 32 (n.1 / 32) := by
  revert n
  decide +kernel

/-- The table's first row compares equal to the quotients, so it lists the neurons in order. -/
theorem inOrder_of (nr : IVec S64x256 32) (hr : S256.ReducesTo [0] S_) (hu : 0 < S_.numel) (hs : S64x256.Slices ![0, 0] S1x256)
    (hc : S1x256.ShapeCasts S256)
    (h : Host.reduce IntOp.andi (cmpi .eq (shapeCast S256 (extractStridedSlice S1x256 ![0, 0] nr hs) hc)
        (fn_floor_divide (F := Ideal) (iotaInDim S256 32 0) (constantI S_ 32 32#32)))
      (constantI S_ 1 1#1) hr hu = fun _ => 1#1) : InOrder nr := by
  intro n
  have e := Host.reduce_andi_all _ _ hr hu (Shape.Idx.first hu) (congrFun h _) (ix1 n)
  have e' := (StableHlo.Predicate.cmpi_eq_iff).1 e
  rw [quotient] at e'
  rw [← e']
  pointwise

/-- The precondition's inputs. -/
structure Holds (x : FVec Ideal S64x2048x256 .f32) (nr : IVec S64x256 32) (W : FVec Ideal S8x32x16 .f32) (b : FVec Ideal S8x16 .f32)
    (WU : FVec Ideal S128x256 .f32) (WV : FVec Ideal S256x160 .f32) : Prop where
  order : InOrder nr
  x_real : Real x
  W_real : Real W
  b_real : Real b
  WU_real : Real WU
  WV_real : Real WV

/-- What the precondition's bits say. -/
theorem holds_of (x : FVec Ideal S64x2048x256 .f32) (nr : IVec S64x256 32) (l : IVec S64 32) (W : FVec Ideal S8x32x16 .f32)
    (b : FVec Ideal S8x16 .f32) (WU : FVec Ideal S128x256 .f32) (bU : FVec Ideal S256 .f32) (WV : FVec Ideal S256x160 .f32)
    (bV : FVec Ideal S160 .f32)
    (h : (fn (F := Ideal) x nr l W b WU bU WV bV).1 = (fun _ => 1#1)
      ∧ (fn (F := Ideal) x nr l W b WU bU WV bV).2.1 = (fun _ => 1#1)
      ∧ (fn (F := Ideal) x nr l W b WU bU WV bV).2.2.1 = (fun _ => 1#1)
      ∧ (fn (F := Ideal) x nr l W b WU bU WV bV).2.2.2.1 = (fun _ => 1#1)
      ∧ (fn (F := Ideal) x nr l W b WU bU WV bV).2.2.2.2.1 = (fun _ => 1#1)
      ∧ (fn (F := Ideal) x nr l W b WU bU WV bV).2.2.2.2.2 = (fun _ => 1#1)) : Holds x nr W b WU WV := by
  dsimp only [fn, fn_part1] at h
  obtain ⟨h1, h2, h3, h4, h5, h6⟩ := h
  exact ⟨inOrder_of nr _ _ _ _ h1, real_of x _ _ _ h2, real_of W _ _ _ h3, real_of b _ _ _ h4, real_of WU _ _ _ h5,
    real_of WV _ _ _ h6⟩

end Cert.Domain

end
-- ==== Proof.RefMask.lean ====
/- The reference's neuron numbers: with the neurons in area order, area a's k-th neuron is number 32·a + k. -/
module

public import proofs.«01_k».proof.Proof.RefTerms
public import proofs.«01_k».proof.Proof.Domain
public import Idealize.ShloMosaic.Lib.Pointwise.Index
public import Idealize.ShloMosaic.Lib.Pointwise
public import Idealize.ShloMosaic.Lib.StableHlo.Predicate
public import Idealize.ShloMosaic.PureOps.Reduce
public import Mathlib.Data.BitVec
public import Mathlib.Order.Interval.Finset.Fin

@[expose] public section

set_option maxRecDepth 16384

noncomputable section

namespace Cert.ReferenceIdeal.Hand

open Idealize.ShloMosaic
open Cert.ReferenceIdeal Cert.ReferenceIdeal.Facts₀ Cert.ReferenceIdeal.Facts

/-- Word addition over a list is the sum. -/
theorem foldl_addi {ι : Type} (l : List ι) (f : ι → BitVec 32) (v : BitVec 32) :
    l.foldl (fun r n => IntOp.addi r (f n)) v = v + (l.map f).sum := by
  induction l generalizing v with
  | nil => simp
  | cons a l ih => rw [List.foldl_cons, ih, List.map_cons, List.sum_cons, ← add_assoc]; rfl

/-- Word addition over a set is the sum. -/
theorem fold_addi {ι : Type} [DecidableEq ι] (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- A neuron belongs to the area its number divided by 32 names. -/
theorem inArea_at (nr : IVec S64x256 32) (h : Cert.Domain.InOrder nr) (a : Fin 8) (n : Fin 256) :
    inArea nr (ix2 a n) = if n.1 / 32 = a.1 then 1#1 else 0#1 := by
  have e : inArea nr (ix2 a n) = IntOp.cmpi .eq (nr (ix2 0 n)) (BitVec.ofNat 32 a.1) := by
    unfold inArea
    pointwise
  rw [e, h n]
  split
  · rename_i hn
    exact StableHlo.Predicate.cmpi_eq_iff.2 (by rw [hn])
  · rename_i hn
    refine (BitVec.eq_zero_or_eq_one _).resolve_right fun he => hn ?_
    have := congrArg BitVec.toNat (StableHlo.Predicate.cmpi_eq_iff.1 he)
    simp only [BitVec.toNat_ofNat] at this
    omega

/-- The window's last i + 1 places, counted. -/
theorem rank_sum (i : Nat) (hi : i < 32) :
    (∑ m : Fin (⟨2, ![1, 256]⟩ : Shape).numel, if 255 - i ≤ ((⟨2, ![1, 256]⟩ : Shape).rowMajor.symm m 1).val then (1 : BitVec 32) else 0)
      = BitVec.ofNat 32 (i + 1) := by
  rw [Equiv.sum_comp (⟨2, ![1, 256]⟩ : Shape).rowMajor.symm
    (fun q : (⟨2, ![1, 256]⟩ : Shape).Idx => if 255 - i ≤ (q 1).val then (1 : BitVec 32) else 0), sum_idx2, Fin.sum_univ_one]
  show (∑ w : Fin 256, if 255 - i ≤ w.val then (1 : BitVec 32) else 0) = _
  rw [Finset.sum_boole, show (Finset.univ.filter fun w : Fin 256 => 255 - i ≤ w.val) = Finset.Ici ⟨255 - i, by omega⟩ by
    ext w; simp [Fin.le_def], Fin.card_Ici, BitVec.natCast_eq_ofNat]
  congr 1
  show 256 - (255 - i) = i + 1
  omega

/-- The number of an area's neurons up to its i-th is i + 1. -/
theorem rank_at (p : IVec S8x256 1) (hp : ∀ (a : Fin 8) (n : Fin 256), p (ix2 a n) = if n.1 / 32 = a.1 then 1#1 else 0#1)
    (a : Fin 8) (n : Fin 256) (i : Nat) (hi : i < 32) (hn : n.1 = 32 * a.1 + i) : rank p (ix2 a n) = BitVec.ofNat 32 (i + 1) := by
  unfold rank Host.reduceWindow
  dsimp only
  rw [foldl_addi, ← Fin.sum_univ_def]
  refine (congrArg₂ (· + ·) (rfl : _ = 0#32) ((Finset.sum_congr rfl fun m _ => ?_).trans
    (rank_sum i hi))).trans (zero_add _)
  have hq0 : ((⟨2, ![1, 256]⟩ : Shape).rowMajor.symm m 0).val < 1 := ((⟨2, ![1, 256]⟩ : Shape).rowMajor.symm m 0).isLt
  have hq1 : ((⟨2, ![1, 256]⟩ : Shape).rowMajor.symm m 1).val < 256 := ((⟨2, ![1, 256]⟩ : Shape).rowMajor.symm m 1).isLt
  split
  · rename_i hin
    have h1 : 255 ≤ n.1 * 1 + ((⟨2, ![1, 256]⟩ : Shape).rowMajor.symm m 1).val ∧ n.1 * 1 + ((⟨2, ![1, 256]⟩ : Shape).rowMajor.symm m 1).val - 255 < 256 := hin (1 : Fin 2)
    refine (congrArg (extui 32 p natLt_1_32) (?_ : _ = ix2 a ⟨n.1 + ((⟨2, ![1, 256]⟩ : Shape).rowMajor.symm m 1).val - 255, by omega⟩)).trans ?_
    · funext c
      apply Fin.ext
      match c with
      | ⟨0, _⟩ =>
        show a.1 * 1 + ((⟨2, ![1, 256]⟩ : Shape).rowMajor.symm m 0).val - 0 = a.1
        omega
      | ⟨1, _⟩ =>
        show n.1 * 1 + ((⟨2, ![1, 256]⟩ : Shape).rowMajor.symm m 1).val - 255 = n.1 + ((⟨2, ![1, 256]⟩ : Shape).rowMajor.symm m 1).val - 255
        omega
    · show (p (ix2 a _)).setWidth 32 = _
      rw [hp]
      by_cases hc : 255 - i ≤ ((⟨2, ![1, 256]⟩ : Shape).rowMajor.symm m 1).val
      · rw [if_pos hc, if_pos (by show (n.1 + ((⟨2, ![1, 256]⟩ : Shape).rowMajor.symm m 1).val - 255) / 32 = a.1; omega)]; rfl
      · rw [if_neg hc, if_neg (by show ¬ (n.1 + ((⟨2, ![1, 256]⟩ : Shape).rowMajor.symm m 1).val - 255) / 32 = a.1; omega)]; rfl
  · rename_i hin
    have hw : ¬ 255 - i ≤ ((⟨2, ![1, 256]⟩ : Shape).rowMajor.symm m 1).val := fun hw => hin fun c => by
      match c with
      | ⟨0, _⟩ =>
        show 0 ≤ a.1 * 1 + ((⟨2, ![1, 256]⟩ : Shape).rowMajor.symm m 0).val ∧ a.1 * 1 + ((⟨2, ![1, 256]⟩ : Shape).rowMajor.symm m 0).val - 0 < 8
        omega
      | ⟨1, _⟩ =>
        show 255 ≤ n.1 * 1 + ((⟨2, ![1, 256]⟩ : Shape).rowMajor.symm m 1).val ∧ n.1 * 1 + ((⟨2, ![1, 256]⟩ : Shape).rowMajor.symm m 1).val - 255 < 256
        omega
    rw [if_neg hw]
    rfl

/-- The i-th neuron of area a is the one numbered 32·a + i. -/
theorem kth_at (p : IVec S8x256 1) (hp : ∀ (a : Fin 8) (n : Fin 256), p (ix2 a n) = if n.1 / 32 = a.1 then 1#1 else 0#1)
    (a : Fin 8) (k : Fin 32) (n : Fin 256) :
    kth p (rank p) (ix3 a k n) = if n.1 = 32 * a.1 + k.1 then 1#1 else 0#1 := by
  have e : kth p (rank p) (ix3 a k n) = IntOp.andi (p (ix2 a n)) (IntOp.cmpi .eq (rank p (ix2 a n)) (IntOp.addi 1#32 (BitVec.ofNat 32 k.1))) := by
    unfold kth
    pointwise
  rw [e, hp]
  by_cases hn : n.1 / 32 = a.1
  · rw [if_pos hn, rank_at p hp a n (n.1 % 32) (by omega) (by omega)]
    split
    · rename_i h
      rw [StableHlo.Predicate.cmpi_eq_iff.2 (show BitVec.ofNat 32 (n.1 % 32 + 1) = IntOp.addi 1#32 (BitVec.ofNat 32 k.1) from ?_)]
      · rfl
      · rw [show n.1 % 32 = k.1 by omega, Nat.add_comm, BitVec.ofNat_add]; rfl
    · rename_i h
      rw [(BitVec.eq_zero_or_eq_one (IntOp.cmpi .eq _ _)).resolve_right fun he => h ?_]
      · rfl
      have := congrArg BitVec.toNat (StableHlo.Predicate.cmpi_eq_iff.1 he)
      rw [show IntOp.addi 1#32 (BitVec.ofNat 32 k.1) = BitVec.ofNat 32 (1 + k.1) from (BitVec.ofNat_add ..).symm] at this
      simp only [BitVec.toNat_ofNat] at this
      omega
  · rw [if_neg hn, if_neg (by omega)]
    exact BitVec.zero_and

/-- The number of area a's k-th neuron. -/
theorem neuronMask_at (q : IVec S8x32x256 1) (hq : ∀ (a : Fin 8) (k : Fin 32) (n : Fin 256), q (ix3 a k n) = if n.1 = 32 * a.1 + k.1 then 1#1 else 0#1)
    (a : Fin 8) (k : Fin 32) : neuronMask q (ix2 a k) = BitVec.ofNat 32 (32 * a.1 + k.1) := by
  unfold neuronMask
  rw [Host.reduce_eq_fold, show constantI S_ 32 0#32 (Shape.Idx.first h_S_) = 0#32 from rfl, fold_addi]
  have hd : ∀ (a : Fin 8) (k : Fin 32) (n : Fin 256), reducesTo_S8x32x256_S8x32_d2.drop (ix3 a k n) = ix2 a k := by
    intro a k n
    funext c
    match c with
    | ⟨0, _⟩ => rfl
    | ⟨1, _⟩ => rfl
  have hx : ∀ (a : Fin 8) (k : Fin 32) (n : Fin 256),
      select q (broadcastInDim S8x32x256 ![0, 1, 2] bcast_S1x1x256_S8x32x256_0_1_2 (broadcastInDim S1x1x256 ![2] bcast_S256_S1x1x256_2 (iotaInDim S256 32 0)))
        (broadcastInDim S8x32x256 ![] bcast_S_S8x32x256 (constantI S_ 32 0#32)) (ix3 a k n)
      = if n.1 = 32 * a.1 + k.1 then BitVec.ofNat 32 n.1 else 0#32 := by
    intro a k n
    show Scalar.select (q (ix3 a k n)) (BitVec.ofNat 32 n.1) 0#32 = _
    rw [hq]
    split <;> rfl
  rw [Finset.sum_eq_single (ix3 a k (⟨32 * a.1 + k.1, by omega⟩ : Fin 256))]
  · rw [hx, if_pos rfl]
  · intro j hj hne
    obtain ⟨a', k', n', rfl⟩ : ∃ a' k' n', j = ix3 a' k' n' := ⟨_, _, _, eq_ix3 j⟩
    have hj' := (Finset.mem_filter.1 hj).2
    rw [hd, ix2_inj] at hj'
    obtain ⟨rfl, rfl⟩ := hj'
    rw [hx]
    refine if_neg fun hn => ?_
    exact hne (by rw [show n' = ⟨32 * a'.1 + k'.1, by omega⟩ from Fin.ext hn])
  · intro hn
    exact absurd (by rw [Finset.mem_filter]; exact ⟨Finset.mem_univ _, hd a k _⟩) hn

/-- With the neurons in area order, area a's k-th neuron is number 32·a + k. -/
theorem neuronMask_inOrder (nr : IVec S64x256 32) (h : Cert.Domain.InOrder nr) (a : Fin 8) (k : Fin 32) :
    neuronMask (kth (inArea nr) (rank (inArea nr))) (ix2 a k) = BitVec.ofNat 32 (32 * a.1 + k.1) :=
  neuronMask_at _ (kth_at _ (inArea_at nr h)) a k

end Cert.ReferenceIdeal.Hand

end
-- ==== Proof.Sorts.lean ====
/- Sorting the places 0 … 7 of each row by a key, and sorting the outcome again: the second sort undoes the first. -/
module

public import Idealize.ShloMosaic.Lib.SortFacts
public import Idealize.ShloMosaic.Lib.StableHlo.Predicate
public import Idealize.ShloMosaic.Lib.Pointwise
public import Mathlib.Order.Fin.Basic

@[expose] public section

noncomputable section

namespace Cert.Sorts

open Idealize.ShloMosaic Idealize.ShloMosaic.Pointwise

/-- A sequence of rows of eight. -/
abbrev Rows : Shape := ⟨2, ![64, 8]⟩

/-- The places that a sort of each row by a key leaves, as one function of the key's order in that row. -/
theorem places_at {α : Type} (cmp : α × BitVec 32 → α × BitVec 32 → BitVec 1) (x : Rows.Idx → α) (b : Fin 64) (k : Fin 8) :
    (Host.sort2 Rows 1 cmp x (iotaInDim Rows 32 1)).2 (ix2 b k)
      = BitVec.ofNat 32 (sortedFrom (fun i j : Fin 8 => cmp (x (ix2 b i), BitVec.ofNat 32 i.1) (x (ix2 b j), BitVec.ofNat 32 j.1) == 1#1) k).1 := by
  have e : ∀ i : Fin 8, (ix2 b k : Rows.Idx).along (1 : Fin 2) i = ix2 b i := by
    intro i
    funext a
    match a with
    | ⟨0, _⟩ => rfl
    | ⟨1, _⟩ => rfl
  unfold Host.sort2
  rw [dif_pos (show 1 < Rows.rank by decide)]
  refine (congrArg (iotaInDim Rows 32 1) (e _)).trans ?_
  have e' : ∀ i j : Fin 8, (cmp (x ((ix2 b k : Rows.Idx).along (1 : Fin 2) i), iotaInDim Rows 32 1 ((ix2 b k : Rows.Idx).along (1 : Fin 2) i))
      (x ((ix2 b k : Rows.Idx).along (1 : Fin 2) j), iotaInDim Rows 32 1 ((ix2 b k : Rows.Idx).along (1 : Fin 2) j)) == 1#1)
      = (cmp (x (ix2 b i), BitVec.ofNat 32 i.1) (x (ix2 b j), BitVec.ofNat 32 j.1) == 1#1) := by
    intro i j
    rw [e, e]
    rfl
  exact congrArg (fun B : Fin 8 → Fin 8 → Bool => BitVec.ofNat 32 (sortedFrom B k).1) (funext fun i => funext fun j => e' i j)

/-- The permutation that a sort of row `b` by a key makes. -/
def perm {α : Type} (cmp : α × BitVec 32 → α × BitVec 32 → BitVec 1) (x : Rows.Idx → α) (b : Fin 64) : Equiv.Perm (Fin 8) :=
  Equiv.ofBijective (sortedFrom fun i j : Fin 8 => cmp (x (ix2 b i), BitVec.ofNat 32 i.1) (x (ix2 b j), BitVec.ofNat 32 j.1) == 1#1)
    ⟨sortedFrom_injective _, sortedFrom_surjective _⟩

/-- The sort's outcome holds that permutation. -/
theorem places_perm {α : Type} (cmp : α × BitVec 32 → α × BitVec 32 → BitVec 1) (x : Rows.Idx → α) (b : Fin 64) (k : Fin 8) :
    (Host.sort2 Rows 1 cmp x (iotaInDim Rows 32 1)).2 (ix2 b k) = BitVec.ofNat 32 (perm cmp x b k).1 :=
  places_at cmp x b k

/-- The order of words. -/
abbrev below (l r : BitVec 32 × BitVec 32) : BitVec 1 := IntOp.cmpi .slt l.1 r.1

/-- The comparison of two small words is that of the numbers. -/
theorem below_small (a b : Fin 8) (u v : BitVec 32) :
    (below (BitVec.ofNat 32 a.1, u) (BitVec.ofNat 32 b.1, v) == 1#1) = decide (a < b) := by
  have : ∀ a b : Fin 8, (IntOp.cmpi .slt (BitVec.ofNat 32 a.1) (BitVec.ofNat 32 b.1) == 1#1) = decide (a < b) := by decide
  exact this a b

/-- A permutation that does not reverse two places anywhere is the identity. -/
theorem eq_refl_of_mono (f : Equiv.Perm (Fin 8)) (h : ∀ i j, i < j → ¬ f j < f i) : f = Equiv.refl _ := by
  have hm : StrictMono f := fun i j hij => lt_of_le_of_ne (not_lt.1 (h i j hij)) fun e => absurd (f.injective e) hij.ne
  have : (StrictMono.orderIsoOfSurjective f hm f.surjective) = OrderIso.refl _ := Subsingleton.elim _ _
  exact Equiv.ext fun i => congrArg (fun g : Fin 8 ≃o Fin 8 => g i) this

/-- Sorting a row that holds a permutation by its own words gives the inverse permutation. -/
theorem perm_below (x : Rows.Idx → BitVec 32) (b : Fin 64) (π : Equiv.Perm (Fin 8))
    (hx : ∀ k, x (ix2 b k) = BitVec.ofNat 32 (π k).1) : perm below x b = π.symm := by
  have hp : ∀ k, perm below x b k = sortedFrom (fun i j : Fin 8 => decide (π i < π j)) k := by
    intro k
    refine congrArg (fun B : Fin 8 → Fin 8 → Bool => sortedFrom B k) (funext fun i => funext fun j => ?_)
    rw [hx, hx, below_small]
  have := eq_refl_of_mono ((perm below x b).trans π) fun i j hij => by
    have := sortedFrom_noInversion (fun i j : Fin 8 => decide (π i < π j)) (fun i j : Fin 8 => decide (π i < π j))
      (fun a b h => by simp only [decide_eq_true_eq, decide_eq_false_iff_not] at h ⊢; exact not_lt.2 h.le)
      (fun _ _ h => h)
      (fun a b c h h' => by simp only [decide_eq_false_iff_not, not_lt] at h h' ⊢; exact h'.trans h) i j hij
    simp only [decide_eq_false_iff_not] at this
    simp only [Equiv.trans_apply, hp]
    exact this
  refine Equiv.ext fun k => ?_
  rw [Equiv.eq_symm_apply]
  exact congrArg (fun g : Equiv.Perm (Fin 8) => g k) this

end Cert.Sorts

end
-- ==== Proof.RefValue.lean ====
/- The reference's result at an index, over the extended reals. -/
module

public import proofs.«01_k».proof.Proof.RefResult
public import proofs.«01_k».proof.Proof.RefGather
public import proofs.«01_k».proof.Proof.RefMask
public import proofs.«01_k».proof.Proof.Sorts
public import proofs.«01_k».proof.Proof.Fold
public import Idealize.ShloMosaic.Lib.Pipeline.ValueKit

@[expose] public section

set_option maxRecDepth 16384

noncomputable section

namespace Cert.ReferenceIdeal.Hand

open Idealize.ShloMosaic
open Cert.ReferenceIdeal Cert.ReferenceIdeal.Facts₀ Cert.ReferenceIdeal.Facts
open Cert.Fold

/-- The order in which the noise sorts a sequence's regions. -/
def order (noise : FVec Ideal S64x8 .f32) (b : Fin 64) : Equiv.Perm (Fin 8) := Cert.Sorts.perm comparator_f32_i32_d1 noise b

/-- The shuffled places hold that order. -/
theorem shuffled_at (noise : FVec Ideal S64x8 .f32) (b : Fin 64) (k : Fin 8) :
    shuffled noise (ix2 b k) = BitVec.ofNat 32 (order noise b k).1 := Cert.Sorts.places_perm _ _ _ _

/-- The restored places hold its inverse. -/
theorem restored_at (noise : FVec Ideal S64x8 .f32) (b : Fin 64) (r : Fin 8) :
    restored (shuffled noise) (ix2 b r) = BitVec.ofNat 32 ((order noise b).symm r).1 :=
  (Cert.Sorts.places_perm Cert.Sorts.below (shuffled noise) b r).trans
    (by rw [Cert.Sorts.perm_below _ _ (order noise b) (shuffled_at noise b)])

/-- A region's own layer. -/
theorem embed_at (w : FVec Ideal S8x32x16 .f32) (y : FVec Ideal S64x2048x8x32 .f32) (s : FVec Ideal S8x16 .f32)
    (b : Fin 64) (t : Fin 2048) (r : Fin 8) (c : Fin 16) :
    embed w y s (ix4 b t r c) = ∑ i : Fin 32, w (ix3 r i c) * y (ix4 b t r i) + s (ix2 r c) := by
  pointwise [embed]

/-- The embedded regions. -/
theorem embedded_at (x : FVec Ideal S64x2048x256 .f32) (nr : IVec S64x256 32) (h : Cert.Domain.InOrder nr)
    (w : FVec Ideal S8x32x16 .f32) (s : FVec Ideal S8x16 .f32) (b : Fin 64) (t : Fin 2048) (r : Fin 8) (c : Fin 16) :
    embedded x nr w s (ix4 b t r c) = emb (fun n => x (ix3 b t n)) (fun r i c => w (ix3 r i c)) (fun r c => s (ix2 r c)) r c := by
  unfold embedded
  rw [embed_at]
  unfold emb
  refine congrArg (fun z : EReal => z + s (ix2 r c)) (Finset.sum_congr rfl fun i _ => congrArg (fun z : EReal => w (ix3 r i c) * z) ?_)
  exact take_at x _ neuron (neuronMask_inOrder nr h) b t r i

/-- Six regions and two of zeros. -/
theorem padded_at (y : FVec Ideal S64x2048x6x16 .f32) (b : Fin 64) (t : Fin 2048) (r : Fin 8) (c : Fin 16) :
    padded y (ix4 b t r c) = if h : r.1 < 6 then y (ix4 b t ⟨r.1, h⟩ c) else (0 : EReal) := by
  pointwise [padded, joined]

/-- The masked regions: a region is kept where it is among the first six of the order. -/
theorem masked_at (e : FVec Ideal S64x2048x8x16 .f32) (noise : FVec Ideal S64x8 .f32) (b : Fin 64) (t : Fin 2048) (r : Fin 8) (c : Fin 16) :
    masked e noise (ix4 b t r c) = if ((order noise b).symm r).1 < 6 then e (ix4 b t r c) else (0 : EReal) := by
  unfold masked
  rw [along8_at _ _ b t r c (fun b r => (order noise b).symm r) (fun b t r c => by
    rw [← restored_at]
    pointwise [restoredPlaces]), padded_at]
  by_cases h : ((order noise b).symm r).1 < 6
  · rw [dif_pos h, if_pos h, along6_at _ _ b t _ c (fun b k => order noise b ⟨k.1, by omega⟩) (fun b t k c => by
      rw [← shuffled_at]
      pointwise [keptPlaces])]
    exact congrArg (fun z => e (ix4 b t z c)) ((order noise b).apply_symm_apply r)
  · rw [dif_neg h, if_neg h]

/-- The two dense layers. -/
theorem dense_at (y : FVec Ideal S64x2048x8x16 .f32) (WU : FVec Ideal S128x256 .f32) (bU : FVec Ideal S256 .f32)
    (WV : FVec Ideal S256x160 .f32) (bV : FVec Ideal S160 .f32) (b : Fin 64) (t : Fin 2048) (v : Fin 160) :
    dense y WU bU WV bV (ix3 b t v)
      = ∑ h : Fin 256, (∑ q : Fin 128, y (ix4 b t (reg' q) (off' q)) * WU (ix2 q h) + bU (ix1 h)) * WV (ix2 h v) + bV (ix1 v) := by
  pointwise [dense]
  rfl

/-- The reference's result at an index. -/
theorem result_at (x : FVec Ideal S64x2048x256 .f32) (nr : IVec S64x256 32) (h : Cert.Domain.InOrder nr)
    (w : FVec Ideal S8x32x16 .f32) (s : FVec Ideal S8x16 .f32) (WU : FVec Ideal S128x256 .f32) (bU : FVec Ideal S256 .f32)
    (WV : FVec Ideal S256x160 .f32) (bV : FVec Ideal S160 .f32) (noise : FVec Ideal S64x8 .f32) (b : Fin 64) (t : Fin 2048) (v : Fin 160) :
    dense (masked (embedded x nr w s) noise) WU bU WV bV (ix3 b t v)
      = layered (fun n => (x (ix3 b t n) : EReal)) (fun r => ((order noise b).symm r).1 < 6) (fun r i c => w (ix3 r i c))
          (fun r c => s (ix2 r c)) (fun q h => WU (ix2 q h)) (fun h => bU (ix1 h)) (fun h => WV (ix2 h v)) (bV (ix1 v)) := by
  rw [dense_at]
  unfold layered
  simp only [masked_at, embedded_at x nr h]

end Cert.ReferenceIdeal.Hand

end
-- ==== Proof.KernelValue.lean ====
/- The kernel's result at an index, over the extended reals. -/
module

public import proofs.«01_k».proof.Proof.KernelHost
public import proofs.«01_k».proof.Proof.KernelRegion0
public import proofs.«01_k».proof.Proof.KernelRegion1
public import proofs.«01_k».proof.Proof.RefValue

@[expose] public section

set_option maxRecDepth 16384

noncomputable section

namespace Cert.KernelIdeal.Hand

open Idealize.ShloMosaic Idealize.ShloMosaic.TcCoe Idealize.SL.Sem
open Cert.KernelIdeal Cert.KernelIdeal.Gen Cert.Fold
open Cert.ReferenceIdeal.Hand (restored shuffled order restored_at)

/-- The kernel's result as one function of its arguments and its noise. -/
def result (x : FVec Ideal S64x2048x256 .f32) (w : FVec Ideal S8x32x16 .f32) (s : FVec Ideal S8x16 .f32) (WU : FVec Ideal S128x256 .f32)
    (bU : FVec Ideal S256 .f32) (WV : FVec Ideal S256x160 .f32) (bV : FVec Ideal S160 .f32) (p : IVec S64x8 32) : FVec Ideal S64x2048x160 .f32 :=
  rowProduct x (shapeCast S64x1x256 (columns (keep (F := Ideal) p)) Gen.shapeCasts_S64x256_S64x1x256)
    (shapeCast S64x1x160 (biases (keep (F := Ideal) p) s WU (shapeCast S1x256 bU Gen.shapeCasts_S256_S1x256) WV
      (shapeCast S1x160 bV Gen.shapeCasts_S160_S1x160)) Gen.shapeCasts_S64x160_S64x1x160)
    (matrix w WU WV)

variable (m : (ℓ : Loc nD τ sig) → Buf (Elt Ideal) ℓ) (ρ : Dev nD → PrngReg)

/-- What the second call reads of the first one's matrix. -/
theorem V7_v17_0 (c : Dev nD) : V7 m ρ c main_v17_0
    = matrix (m ((c : Thread nD τ).loc main_arg3)) (m ((c : Thread nD τ).loc main_arg5)) (m ((c : Thread nD τ).loc main_arg7)) :=
  (W7_of m ρ c main_v17_0 (by decide)).trans ((W6_arr m ρ c 7).trans ((final0_7 (V5 m ρ) c).trans (by
    rw [show V5 m ρ c main_arg3 = _ from W5_args m ρ c main_arg3 (by decide), show V5 m ρ c main_arg5 = _ from W5_args m ρ c main_arg5 (by decide),
      show V5 m ρ c main_arg7 = _ from W5_args m ρ c main_arg7 (by decide)])))

/-- What the first call leaves of the biases. -/
theorem W6_v17_1 (c : Dev nD) : W6 m ρ c (Proc.devRef .tc main_v17_1)
    = biases (keep (restored (shuffled (noise m ρ c)))) (m ((c : Thread nD τ).loc main_arg4)) (m ((c : Thread nD τ).loc main_arg5))
      (shapeCast S1x256 (m ((c : Thread nD τ).loc main_arg6)) Gen.shapeCasts_S256_S1x256) (m ((c : Thread nD τ).loc main_arg7))
      (shapeCast S1x160 (m ((c : Thread nD τ).loc main_arg8)) Gen.shapeCasts_S160_S1x160) :=
  (W6_arr m ρ c 8).trans ((final0_8 (V5 m ρ) c).trans (by
    rw [show V5 m ρ c main_arg4 = _ from W5_args m ρ c main_arg4 (by decide), show V5 m ρ c main_arg5 = _ from W5_args m ρ c main_arg5 (by decide),
      show V5 m ρ c main_arg7 = _ from W5_args m ρ c main_arg7 (by decide),
      show V5 m ρ c main_v12 = _ from prep_v12 _, show V5 m ρ c main_v15 = _ from prep_v15 _, show V5 m ρ c main_v16 = _ from prep_v16 _,
      W4_v9, W4_args m ρ c main_arg6 (by decide), W4_args m ρ c main_arg8 (by decide)]))

/-- What the second call reads of the mask. -/
theorem V7_v18 (c : Dev nD) : V7 m ρ c main_v18
    = shapeCast S64x1x256 (columns (keep (F := Ideal) (restored (shuffled (noise m ρ c))))) Gen.shapeCasts_S64x256_S64x1x256 :=
  (prep_v18 _).trans (by
    rw [W6_of_ne m ρ c main_v14 (by decide), show W5 m ρ c (Proc.devRef .tc main_v14) = _ from prep_v14 _, W4_v9])

/-- The kernel's result, as that function. -/
theorem W8_v20 (c : Dev nD) : W8 m ρ c (Proc.devRef .tc main_v20)
    = result (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (restored (shuffled (noise m ρ c))) :=
  (W8_arr m ρ c 4).trans ((final1 (V7 m ρ) c).trans (by
    rw [show V7 m ρ c main_arg0 = _ from W7_args m ρ c main_arg0 (by decide), V7_v17_0, V7_v18,
      show V7 m ρ c main_v19 = _ from prep_v19 _, W6_v17_1]
    rfl))

/-- A region's weight is one where it is kept and zero elsewhere. -/
theorem keep_at (n : FVec Ideal S64x8 .f32) (b : Fin 64) (r : Fin 8) :
    (keep (F := Ideal) (restored (shuffled n)) (ix2 b r) : EReal) = if ((order n b).symm r).1 < 6 then 1 else 0 := by
  have e : (keep (F := Ideal) (restored (shuffled n)) (ix2 b r) : EReal)
      = (((IntOp.cmpi .slt (restored (shuffled n) (ix2 b r)) 6#32).toNat : ℝ) : EReal) := rfl
  rw [e, restored_at]
  generalize (order n b).symm r = q
  fin_cases q <;> simp [IntOp.cmpi]

/-- The weight of a neuron's region. -/
theorem columns_at (k : FVec Ideal S64x8 .f32) (b : Fin 64) (n : Fin 256) :
    shapeCast S64x1x256 (columns k) Gen.shapeCasts_S64x256_S64x1x256 (ix3 b 0 n) = k (ix2 b (reg n)) := by
  unfold columns
  pointwise
  blk_point [reg]

/-- The kernel computes the folded form. -/
theorem result_at (x : FVec Ideal S64x2048x256 .f32) (w : FVec Ideal S8x32x16 .f32) (s : FVec Ideal S8x16 .f32) (WU : FVec Ideal S128x256 .f32)
    (bU : FVec Ideal S256 .f32) (WV : FVec Ideal S256x160 .f32) (bV : FVec Ideal S160 .f32) (n : FVec Ideal S64x8 .f32)
    (b : Fin 64) (t : Fin 2048) (v : Fin 160) :
    result x w s WU bU WV bV (restored (shuffled n)) (ix3 b t v)
      = folded (fun n => (x (ix3 b t n) : EReal)) (fun r => if ((order n b).symm r).1 < 6 then 1 else 0) (fun r i c => w (ix3 r i c)) (fun r c => s (ix2 r c))
        (fun q h => WU (ix2 q h)) (fun h => bU (ix1 h)) (fun h => WV (ix2 h v)) (bV (ix1 v)) := by
  have hs : ∀ y : FVec Ideal S64x160 .f32, shapeCast S64x1x160 y Gen.shapeCasts_S64x160_S64x1x160 (ix3 b 0 v) = y (ix2 b v) := by
    intro y; pointwise
  have hU : ∀ h : Fin 256, shapeCast S1x256 bU Gen.shapeCasts_S256_S1x256 (ix2 0 h) = bU (ix1 h) := by
    intro h; pointwise
  have hV : shapeCast S1x160 bV Gen.shapeCasts_S160_S1x160 (ix2 0 v) = bV (ix1 v) := by
    pointwise
  unfold folded A biasRow M2
  simp only [← keep_at n b]
  show (∑ k : Fin 256, x (ix3 b t k) * shapeCast S64x1x256 (columns (keep (F := Ideal) (restored (shuffled n)))) Gen.shapeCasts_S64x256_S64x1x256 (ix3 b 0 k)
      * matrix w WU WV (ix2 k v) + shapeCast S64x1x160 (biases (keep (F := Ideal) (restored (shuffled n))) s WU (shapeCast S1x256 bU Gen.shapeCasts_S256_S1x256) WV
      (shapeCast S1x160 bV Gen.shapeCasts_S160_S1x160)) Gen.shapeCasts_S64x160_S64x1x160 (ix3 b 0 v) : EReal) = _
  rw [hs]
  simp only [columns_at]
  show (∑ k : Fin 256, x (ix3 b t k) * keep (F := Ideal) (restored (shuffled n)) (ix2 b (reg k)) * matrix w WU WV (ix2 k v)
    + (∑ r : Fin 8, keep (F := Ideal) (restored (shuffled n)) (ix2 b r) * biasAt s WU WV r v
      + (∑ h : Fin 256, shapeCast S1x256 bU Gen.shapeCasts_S256_S1x256 (ix2 0 h) * WV (ix2 h v) + shapeCast S1x160 bV Gen.shapeCasts_S160_S1x160 (ix2 0 v))) : EReal) = _
  simp only [hU, hV]
  rfl

end Cert.KernelIdeal.Hand

end
-- ==== Proof.Twin.lean ====
/- Two straight lines of host operations that compute the same values, buffer by buffer, in two programs. -/
module

public import Idealize.ShloMosaic.Lib.StableHlo.RunHlo

@[expose] public section

noncomputable section

namespace Cert.Twin

open Idealize.ShloMosaic Idealize.ShloMosaic.StableHlo Idealize.SL.Sem

variable {τ₁ τ₂ : Topo} {sig₁ sig₂ : RefSig} {Val : EltTy → Type}

/-- What a typed reference reads. -/
def val {τ : Topo} {sig : RefSig} {T : BufTy} (V : Valuation τ sig Val) (x : TRef sig T) : T.Contents Val :=
  x.ofBuf (V (Proc.devRef .tc x.ref))

/-- Reference `r₂` stands `d` places after `r₁`, which is one of the places from `lo` up to (not including) `n`. -/
def paired (d lo n : Nat) (r₁ : Ref sig₁ .tc) (r₂ : Ref sig₂ .tc) : Bool :=
  decide (r₁.space = .hbm) && decide (r₂.space = .hbm) && decide (lo ≤ r₁.idx.val) && decide (r₁.idx.val < n)
    && decide (r₂.idx.val = r₁.idx.val + d)

/-- The two valuations agree at every pair of places from `lo` up to `n`. -/
def Twins (d lo n : Nat) (V₁ : Valuation τ₁ sig₁ Val) (V₂ : Valuation τ₂ sig₂ Val) : Prop :=
  ∀ (T : BufTy) (a : TRef sig₁ T) (b : TRef sig₂ T), paired d lo n a.ref b.ref = true → val V₁ a = val V₂ b

/-- The two lines keep the agreement, and extend it to the places they write. -/
def TwinRun (d lo n : Nat) (l₁ : List (HloOp τ₁ sig₁ Val)) (l₂ : List (HloOp τ₂ sig₂ Val)) : Prop :=
  ∀ V₁ V₂, Twins d lo n V₁ V₂ → Twins d lo (n + l₁.length) (after l₁ V₁) (after l₂ V₂)

/-- Nothing run keeps the agreement. -/
theorem TwinRun.nil (d lo n : Nat) : TwinRun (Val := Val) (τ₁ := τ₁) (τ₂ := τ₂) (sig₁ := sig₁) (sig₂ := sig₂) d lo n [] [] :=
  fun _ _ h => h

/-- Two references at one place of the high-bandwidth memory are one. -/
theorem ref_eq {sig : RefSig} {r s : Ref sig .tc} (hr : r.space = .hbm) (hs : s.space = .hbm)
    (h : r.idx.val = s.idx.val) : r = s := by
  obtain ⟨a, i, hi⟩ := r
  obtain ⟨b, j, hj⟩ := s
  simp only at hr hs h
  subst hr; subst hs
  obtain rfl : i = j := Fin.ext h
  rfl

/-- One operation of each line: it changes its own result's buffer only, the two results are paired and equal. -/
theorem TwinRun.cons {d lo : Nat} {T : BufTy} {op₁ : HloOp τ₁ sig₁ Val} {op₂ : HloOp τ₂ sig₂ Val}
    {l₁ : List (HloOp τ₁ sig₁ Val)} {l₂ : List (HloOp τ₂ sig₂ Val)} (y₁ : TRef sig₁ T) (y₂ : TRef sig₂ T)
    (hy : paired d lo (y₁.ref.idx.val + 1) y₁.ref y₂.ref = true)
    (h₁ : ∀ (V : Valuation τ₁ sig₁ Val) (r : Ref sig₁ .tc), r ≠ y₁.ref → op₁.result V (Proc.devRef .tc r) = V (Proc.devRef .tc r))
    (h₂ : ∀ (V : Valuation τ₂ sig₂ Val) (r : Ref sig₂ .tc), r ≠ y₂.ref → op₂.result V (Proc.devRef .tc r) = V (Proc.devRef .tc r))
    (he : ∀ V₁ V₂, Twins d lo y₁.ref.idx.val V₁ V₂ → val (op₁.result V₁) y₁ = val (op₂.result V₂) y₂)
    (hl : TwinRun d lo (y₁.ref.idx.val + 1) l₁ l₂) : TwinRun d lo y₁.ref.idx.val (op₁ :: l₁) (op₂ :: l₂) := by
  intro V₁ V₂ h
  have := hl (op₁.result V₁) (op₂.result V₂) ?_
  · rw [List.length_cons, Nat.add_comm l₁.length 1, ← Nat.add_assoc]; exact this
  intro U a b hab
  have hy' := hy
  simp only [paired, Bool.and_eq_true, decide_eq_true_eq] at hab hy'
  obtain ⟨⟨⟨⟨ha, hb⟩, hlo⟩, hn⟩, hd⟩ := hab
  obtain ⟨⟨⟨⟨hya, hyb⟩, -⟩, -⟩, hyd⟩ := hy'
  by_cases e : a.ref.idx.val = y₁.ref.idx.val
  · have ea : a.ref = y₁.ref := ref_eq ha hya e
    have eb : b.ref = y₂.ref := ref_eq hb hyb (by omega)
    have hU : U = T := by rw [← a.ty_eq, ea, y₁.ty_eq]
    subst hU
    have := he V₁ V₂ h
    obtain ⟨ar, ta, qa, sa⟩ := a
    obtain ⟨br, tb, qb, sb⟩ := b
    dsimp only at ea eb
    subst ea eb
    exact this
  · have na : a.ref ≠ y₁.ref := fun c => e (by rw [c])
    have nb : b.ref ≠ y₂.ref := fun c => e (by
      have : b.ref.idx.val = y₂.ref.idx.val := by rw [c]
      omega)
    have := h U a b (by simp only [paired, Bool.and_eq_true, decide_eq_true_eq]; exact ⟨⟨⟨⟨ha, hb⟩, hlo⟩, by omega⟩, hd⟩)
    unfold val at this ⊢
    rw [h₁ _ _ na, h₂ _ _ nb]
    exact this

variable {Ta Tb Tc Ty : BufTy} {d lo : Nat} {l₁ : List (HloOp τ₁ sig₁ Val)} {l₂ : List (HloOp τ₂ sig₂ Val)}

/-- The buffer's contents put back are read as they were. -/
theorem val_put {τ : Topo} {sig : RefSig} (V : Valuation τ sig Val) (y : TRef sig Ty) (v : Ty.Contents Val)
    (h : V (Proc.devRef .tc y.ref) = y.toBuf v) : val V y = v := by
  unfold val
  rw [h, TRef.ofBuf_toBuf]

/-- A constant in each line. -/
theorem TwinRun.nullary (y₁ : TRef sig₁ Ty) (y₂ : TRef sig₂ Ty) (v₁ v₂ : Ty.Contents Val)
    {n : Nat} (hn' : y₁.ref.idx.val = n) (hl : TwinRun d lo (y₁.ref.idx.val + 1) l₁ l₂)
    (hy : paired d lo (y₁.ref.idx.val + 1) y₁.ref y₂.ref = true) (hv : v₁ = v₂) :
    TwinRun d lo n (TRef.nullary y₁ v₁ :: l₁) (TRef.nullary y₂ v₂ :: l₂) := by
  subst hn'
  refine TwinRun.cons y₁ y₂ hy (fun V r h => nullary_result_ne (h := h) ..) (fun V r h => nullary_result_ne (h := h) ..) (fun V₁ V₂ h => ?_) hl
  rw [val_put _ y₁ v₁ (nullary_result' ..), val_put _ y₂ v₂ (nullary_result' ..), hv]

/-- An operation of one operand in each line. -/
theorem TwinRun.unary (a₁ : TRef sig₁ Ta) (a₂ : TRef sig₂ Ta) (y₁ : TRef sig₁ Ty) (y₂ : TRef sig₂ Ty)
    (f₁ f₂ : Ta.Contents Val → Ty.Contents Val)
    {n : Nat} (hn' : y₁.ref.idx.val = n) (hl : TwinRun d lo (y₁.ref.idx.val + 1) l₁ l₂)
    (hy : paired d lo (y₁.ref.idx.val + 1) y₁.ref y₂.ref = true) (ha : paired d lo y₁.ref.idx.val a₁.ref a₂.ref = true)
    (hf : f₁ = f₂) :
    TwinRun d lo n (TRef.unary a₁ y₁ f₁ :: l₁) (TRef.unary a₂ y₂ f₂ :: l₂) := by
  subst hn'
  refine TwinRun.cons y₁ y₂ hy (fun V r h => unary_result_ne (h := h) ..) (fun V r h => unary_result_ne (h := h) ..) (fun V₁ V₂ h => ?_) hl
  rw [val_put _ y₁ (f₁ (val V₁ a₁)) (unary_result' ..), val_put _ y₂ (f₂ (val V₂ a₂)) (unary_result' ..), hf, h _ a₁ a₂ ha]

/-- An operation of two operands in each line. -/
theorem TwinRun.binary (a₁ : TRef sig₁ Ta) (a₂ : TRef sig₂ Ta) (b₁ : TRef sig₁ Tb) (b₂ : TRef sig₂ Tb)
    (y₁ : TRef sig₁ Ty) (y₂ : TRef sig₂ Ty) (f₁ f₂ : Ta.Contents Val → Tb.Contents Val → Ty.Contents Val)
    {n : Nat} (hn' : y₁.ref.idx.val = n) (hl : TwinRun d lo (y₁.ref.idx.val + 1) l₁ l₂)
    (hy : paired d lo (y₁.ref.idx.val + 1) y₁.ref y₂.ref = true) (ha : paired d lo y₁.ref.idx.val a₁.ref a₂.ref = true)
    (hb : paired d lo y₁.ref.idx.val b₁.ref b₂.ref = true) (hf : f₁ = f₂) :
    TwinRun d lo n (TRef.binary a₁ b₁ y₁ f₁ :: l₁) (TRef.binary a₂ b₂ y₂ f₂ :: l₂) := by
  subst hn'
  refine TwinRun.cons y₁ y₂ hy (fun V r h => binary_result_ne (h := h) ..) (fun V r h => binary_result_ne (h := h) ..) (fun V₁ V₂ h => ?_) hl
  rw [val_put _ y₁ (f₁ (val V₁ a₁) (val V₁ b₁)) (binary_result' ..),
    val_put _ y₂ (f₂ (val V₂ a₂) (val V₂ b₂)) (binary_result' ..), hf, h _ a₁ a₂ ha, h _ b₁ b₂ hb]

/-- A reshape's result is the operand's value in the result's shape. -/
theorem val_reshape {τ : Topo} {sig : RefSig} (x : TRef sig Ta) (y : TRef sig Ty) (he : Ta.elt = Ty.elt)
    (hn : Ta.shape.ShapeCasts Ty.shape) (V : Valuation τ sig Val) :
    val ((TRef.reshape (Val := Val) x y he hn).result V) y = fun i => he ▸ shapeCast Ty.shape (val V x) hn i := by
  obtain ⟨xr, rfl, hx, hx'⟩ := x
  obtain ⟨yr, rfl, hy, hy'⟩ := y
  exact val_put _ _ _ (reshape_result' ..)

/-- A reshape in each line. -/
theorem TwinRun.reshape (a₁ : TRef sig₁ Ta) (a₂ : TRef sig₂ Ta) (y₁ : TRef sig₁ Ty) (y₂ : TRef sig₂ Ty)
    (he₁ he₂ : Ta.elt = Ty.elt) (hn₁ hn₂ : Ta.shape.ShapeCasts Ty.shape)
    {n : Nat} (hn' : y₁.ref.idx.val = n) (hl : TwinRun d lo (y₁.ref.idx.val + 1) l₁ l₂)
    (hy : paired d lo (y₁.ref.idx.val + 1) y₁.ref y₂.ref = true) (ha : paired d lo y₁.ref.idx.val a₁.ref a₂.ref = true) :
    TwinRun d lo n (TRef.reshape a₁ y₁ he₁ hn₁ :: l₁) (TRef.reshape a₂ y₂ he₂ hn₂ :: l₂) := by
  subst hn'
  refine TwinRun.cons y₁ y₂ hy (fun V r h => reshape_result_ne (h := h) ..) (fun V r h => reshape_result_ne (h := h) ..) (fun V₁ V₂ h => ?_) hl
  rw [val_reshape, val_reshape, h _ a₁ a₂ ha]

end Cert.Twin

end
-- ==== Proof.NoiseTwin.lean ====
/- The two programs draw the same noise. -/
module

public import proofs.«01_k».proof.Proof.Twin
public import proofs.«01_k».proof.Proof.RefRun
public import proofs.«01_k».proof.Proof.Gen.KernelIdeal.Launch

@[expose] public section

noncomputable section

namespace Cert.NoiseTwin

open Idealize.ShloMosaic Idealize.ShloMosaic.StableHlo Idealize.SL.Sem Cert.Twin

variable {F : FTy → Type} [FloatOps F]

set_option maxHeartbeats 4000000 in
set_option maxRecDepth 16384 in
/-- The draw's operations are the same, one by one. -/
theorem draw_twin :
    TwinRun (Val := Elt F) 61 18 21 (Cert.KernelIdeal.Gen.hostOps0_1 (F := F))
      (Cert.ReferenceIdeal.Hand.uniformOps (F := F) (.of Cert.ReferenceIdeal.main_v37) (.of Cert.ReferenceIdeal.main_cst) (.of Cert.ReferenceIdeal.main_cst_5) Cert.ReferenceIdeal.main_call3).1 := by
  dsimp only [Cert.KernelIdeal.Gen.hostOps0_1, Cert.ReferenceIdeal.Hand.uniformOps, Cert.ReferenceIdeal.Hand.threefryOps,
    Cert.ReferenceIdeal.Hand.threefryOps0, Cert.ReferenceIdeal.Hand.threefryOps1, Cert.ReferenceIdeal.Hand.threefryOps2,
    Cert.ReferenceIdeal.Hand.threefryOps3, List.cons_append, List.nil_append]
  repeat (first
    | (with_reducible refine TwinRun.binary _ _ _ _ _ _ _ _ ?_ ?_ ?_ ?_ ?_ ?_); exact rfl; rotate_left; exact rfl; exact rfl; exact rfl; exact rfl
    | (with_reducible refine TwinRun.unary _ _ _ _ _ _ ?_ ?_ ?_ ?_ ?_); exact rfl; rotate_left; exact rfl; exact rfl; exact rfl
    | (with_reducible refine TwinRun.nullary _ _ _ _ ?_ ?_ ?_ ?_); exact rfl; rotate_left; exact rfl; exact rfl
    | (with_reducible refine TwinRun.reshape _ _ _ _ _ _ _ _ ?_ ?_ ?_ ?_); exact rfl; rotate_left; exact rfl; exact rfl)
  exact TwinRun.nil _ _ _
end Cert.NoiseTwin

end
-- ==== Proof.NoiseSame.lean ====
/- The noise is the same in both programs. -/
module

public import proofs.«01_k».proof.Proof.NoiseTwin
public import proofs.«01_k».proof.Proof.RefRun2
public import Idealize.ShloMosaic.Lib.StableHlo.RunRead

@[expose] public section

set_option maxRecDepth 16384

noncomputable section

namespace Cert.NoiseTwin

open Idealize.ShloMosaic Idealize.ShloMosaic.StableHlo Idealize.SL.Sem Cert.Twin

variable {F : FTy → Type} [FloatOps F]

/-- Two words as one key. -/
def pair (h : Shape.Concatenates [⟨1, ![1]⟩, ⟨1, ![1]⟩] ⟨1, ![2]⟩ 0) (x y : IVec ⟨1, ![1]⟩ 32) : IVec ⟨1, ![2]⟩ 32 :=
  concatenate ⟨1, ![2]⟩ 0 [⟨⟨1, ![1]⟩, x⟩, ⟨⟨1, ![1]⟩, y⟩] h

/-- The key, in the kernel's program. -/
theorem key_kernel (V : Valuation Cert.KernelIdeal.τ Cert.KernelIdeal.sig (Elt F)) :
    after (Cert.KernelIdeal.Gen.hostOps0 (F := F)) V (Proc.devRef .tc Cert.KernelIdeal.main_v6)
      = pair (by decide)
        (broadcastInDim ⟨1, ![1]⟩ ![] (by decide) (Host.shrui (constantI ⟨0, ![]⟩ 32 12345#32) (constantI ⟨0, ![]⟩ 32 32#32)))
        (broadcastInDim ⟨1, ![1]⟩ ![] (by decide) (andi (constantI ⟨0, ![]⟩ 32 12345#32) (constantI ⟨0, ![]⟩ 32 4294967295#32))) := by
  dsimp only [Cert.KernelIdeal.Gen.hostOps0]
  rw [show (fun x y => concatenate Cert.KernelIdeal.S2 0 [⟨Cert.KernelIdeal.S1, x⟩, ⟨Cert.KernelIdeal.S1, y⟩] _) = pair (by decide) from rfl]
  after_reads_simp
  rfl

set_option maxHeartbeats 4000000 in
/-- The key, in the reference's program. -/
theorem key_reference (V : Valuation Cert.ReferenceIdeal.τ Cert.ReferenceIdeal.sig (Elt F)) :
    after (Cert.ReferenceIdeal.Hand.opsA (F := F)) V (Proc.devRef .tc Cert.ReferenceIdeal.main_v37)
      = pair (by decide)
        (broadcastInDim ⟨1, ![1]⟩ ![] (by decide) (Host.shrui (constantI ⟨0, ![]⟩ 32 12345#32) (constantI ⟨0, ![]⟩ 32 32#32)))
        (broadcastInDim ⟨1, ![1]⟩ ![] (by decide) (andi (constantI ⟨0, ![]⟩ 32 12345#32) (constantI ⟨0, ![]⟩ 32 4294967295#32))) := by
  dsimp only [Cert.ReferenceIdeal.Hand.opsA, Cert.ReferenceIdeal.Hand.opsAll, Cert.ReferenceIdeal.Hand.mainOps0,
    Cert.ReferenceIdeal.Hand.cumsumOps, Cert.ReferenceIdeal.Hand.cumsum0Ops, Cert.ReferenceIdeal.Hand.whereOps, Cert.ReferenceIdeal.Hand.where1Ops, Cert.ReferenceIdeal.Hand.takeOps,
    List.cons_append, List.nil_append, List.take_succ_cons, List.take_zero]
  rw [show (fun x y => concatenate Cert.ReferenceIdeal.S2 0 [⟨Cert.ReferenceIdeal.S1, x⟩, ⟨Cert.ReferenceIdeal.S1, y⟩] _) = pair (by decide) from rfl]
  after_reads_simp
  rfl

set_option maxHeartbeats 4000000 in
/-- The first constant, in the reference's program. -/
theorem zero_reference (V : Valuation Cert.ReferenceIdeal.τ Cert.ReferenceIdeal.sig (Elt F)) :
    after (Cert.ReferenceIdeal.Hand.opsA (F := F)) V (Proc.devRef .tc Cert.ReferenceIdeal.main_cst) = constant ⟨0, ![]⟩ .f32 0x00000000#32 := by
  dsimp only [Cert.ReferenceIdeal.Hand.opsA, Cert.ReferenceIdeal.Hand.opsAll, Cert.ReferenceIdeal.Hand.mainOps0,
    Cert.ReferenceIdeal.Hand.cumsumOps, Cert.ReferenceIdeal.Hand.cumsum0Ops, Cert.ReferenceIdeal.Hand.whereOps, Cert.ReferenceIdeal.Hand.where1Ops, Cert.ReferenceIdeal.Hand.takeOps,
    List.cons_append, List.nil_append, List.take_succ_cons, List.take_zero]
  after_reads_simp

set_option maxHeartbeats 4000000 in
/-- The second constant, in the reference's program. -/
theorem one_reference (V : Valuation Cert.ReferenceIdeal.τ Cert.ReferenceIdeal.sig (Elt F)) :
    after (Cert.ReferenceIdeal.Hand.opsA (F := F)) V (Proc.devRef .tc Cert.ReferenceIdeal.main_cst_5) = constant ⟨0, ![]⟩ .f32 0x3F800000#32 := by
  dsimp only [Cert.ReferenceIdeal.Hand.opsA, Cert.ReferenceIdeal.Hand.opsAll, Cert.ReferenceIdeal.Hand.mainOps0,
    Cert.ReferenceIdeal.Hand.cumsumOps, Cert.ReferenceIdeal.Hand.cumsum0Ops, Cert.ReferenceIdeal.Hand.whereOps, Cert.ReferenceIdeal.Hand.where1Ops, Cert.ReferenceIdeal.Hand.takeOps,
    List.cons_append, List.nil_append, List.take_succ_cons, List.take_zero]
  after_reads_simp

/-- The first constant, in the kernel's program. -/
theorem zero_kernel (V : Valuation Cert.KernelIdeal.τ Cert.KernelIdeal.sig (Elt F)) :
    after (Cert.KernelIdeal.Gen.hostOps0 (F := F)) V (Proc.devRef .tc Cert.KernelIdeal.main_cst) = constant ⟨0, ![]⟩ .f32 0x00000000#32 := by
  after_reads_simp

/-- The second constant, in the kernel's program. -/
theorem one_kernel (V : Valuation Cert.KernelIdeal.τ Cert.KernelIdeal.sig (Elt F)) :
    after (Cert.KernelIdeal.Gen.hostOps0 (F := F)) V (Proc.devRef .tc Cert.KernelIdeal.main_cst_2) = constant ⟨0, ![]⟩ .f32 0x3F800000#32 := by
  after_reads_simp

/-- The key and the two constants are the same in both programs. -/
theorem draw_inputs (V₁ : Valuation Cert.KernelIdeal.τ Cert.KernelIdeal.sig (Elt F)) (V₂ : Valuation Cert.ReferenceIdeal.τ Cert.ReferenceIdeal.sig (Elt F)) :
    Twins 61 18 21 (after (Cert.KernelIdeal.Gen.hostOps0 (F := F)) V₁) (after (Cert.ReferenceIdeal.Hand.opsA (F := F)) V₂) := by
  intro T a b hab
  obtain ⟨ra, ta, da, ua⟩ := a
  obtain ⟨rb, tb, db, ub⟩ := b
  simp only [paired, Bool.and_eq_true, decide_eq_true_eq] at hab
  obtain ⟨⟨⟨⟨ha, hb⟩, hlo⟩, hhi⟩, hd⟩ := hab
  have hk : ra.idx.val = 18 ∨ ra.idx.val = 19 ∨ ra.idx.val = 20 := by omega
  rcases hk with hk | hk | hk
  · obtain rfl : ra = Cert.KernelIdeal.main_v6 := ref_eq ha rfl hk
    obtain rfl : rb = Cert.ReferenceIdeal.main_v37 := ref_eq hb rfl (hd.trans (congrArg (· + 61) hk))
    subst ta
    exact (key_kernel V₁).trans (key_reference V₂).symm
  · obtain rfl : ra = Cert.KernelIdeal.main_cst := ref_eq ha rfl hk
    obtain rfl : rb = Cert.ReferenceIdeal.main_cst := ref_eq hb rfl (hd.trans (congrArg (· + 61) hk))
    subst ta
    exact (zero_kernel V₁).trans (zero_reference V₂).symm
  · obtain rfl : ra = Cert.KernelIdeal.main_cst_2 := ref_eq ha rfl hk
    obtain rfl : rb = Cert.ReferenceIdeal.main_cst_5 := ref_eq hb rfl (hd.trans (congrArg (· + 61) hk))
    subst ta
    exact (one_kernel V₁).trans (one_reference V₂).symm

/-- The noise is the same in both programs. -/
theorem noise_same (V₁ : Valuation Cert.KernelIdeal.τ Cert.KernelIdeal.sig (Elt F)) (V₂ : Valuation Cert.ReferenceIdeal.τ Cert.ReferenceIdeal.sig (Elt F)) :
    (after (Cert.KernelIdeal.Gen.hostOps0_1 (F := F)) (after (Cert.KernelIdeal.Gen.hostOps0 (F := F)) V₁) (Proc.devRef .tc Cert.KernelIdeal.main_v7) : FVec F ⟨2, ![64, 8]⟩ .f32)
      = after (Cert.ReferenceIdeal.Hand.opsU (F := F)) (after (Cert.ReferenceIdeal.Hand.opsA (F := F)) V₂) (Proc.devRef .tc Cert.ReferenceIdeal.main_v38) :=
  draw_twin _ _ (draw_inputs V₁ V₂) ⟨⟨2, ![64, 8]⟩, .f32⟩ (.of Cert.KernelIdeal.main_v7) (.of Cert.ReferenceIdeal.main_v38) rfl

end Cert.NoiseTwin

end
-- ==== Proof.Algebraic.lean ====
/- The two programs compute the same numbers: the folded form is the layered form wherever the precondition holds. -/
module

public import proofs.«01_k».proof.Defs
public import proofs.«01_k».proof.Proof.KernelRun
public import proofs.«01_k».proof.Proof.KernelValue
public import proofs.«01_k».proof.Proof.RefFrame
public import proofs.«01_k».proof.Proof.RefValue
public import proofs.«01_k».proof.Proof.NoiseSame
public import proofs.«01_k».proof.Proof.Domain

@[expose] public section

set_option maxRecDepth 16384

noncomputable section

namespace Cert.Same

open Idealize.ShloMosaic Idealize.ShloMosaic.StableHlo Idealize.SL.Sem
open Cert.ReferenceIdeal.Hand (dense masked embedded restored shuffled)

/-- On equal arguments and equal noise, the two results are equal. -/
theorem values_same (x : FVec Ideal ⟨3, ![64, 2048, 256]⟩ .f32) (nr : IVec ⟨2, ![64, 256]⟩ 32) (w : FVec Ideal ⟨3, ![8, 32, 16]⟩ .f32)
    (s : FVec Ideal ⟨2, ![8, 16]⟩ .f32) (WU : FVec Ideal ⟨2, ![128, 256]⟩ .f32) (bU : FVec Ideal ⟨1, ![256]⟩ .f32)
    (WV : FVec Ideal ⟨2, ![256, 160]⟩ .f32) (bV : FVec Ideal ⟨1, ![160]⟩ .f32) (n : FVec Ideal ⟨2, ![64, 8]⟩ .f32)
    (h : Cert.Domain.Holds x nr w s WU WV) :
    dense (masked (embedded x nr w s) n) WU bU WV bV = Cert.KernelIdeal.Hand.result x w s WU bU WV bV (restored (shuffled n)) := by
  funext j
  rw [eq_ix3 j]
  refine (Cert.ReferenceIdeal.Hand.result_at x nr h.order w s WU bU WV bV n (j 0) (j 1) (j 2)).trans ?_
  refine (Cert.Fold.layered_eq_folded _ _ _ _ _ _ _ _ (fun _ => h.x_real _) (fun _ _ _ => h.W_real _) (fun _ _ => h.b_real _)
    (fun _ _ => h.WU_real _) (fun _ => h.WV_real _)).trans ?_
  exact (Cert.KernelIdeal.Hand.result_at x w s WU bU WV bV n (j 0) (j 1) (j 2)).symm

/-- The algebraic claim. -/
theorem algebraic : Cert.algebraic_KernelIdeal_ReferenceIdeal_pre_in_order_and_finite := by
  intro m g m' g' hpre hargs
  refine ⟨fun c => Cert.KernelIdeal.Gen.W8 m g c (Proc.devRef .tc Cert.KernelIdeal.main_v20),
    θ_run_mono (Cert.KernelIdeal.Hand.run_result m g) fun _ h => h.1,
    θ_run_mono (Cert.ReferenceIdeal.Hand.run_full m' g') fun r h c => ⟨(h.1 c).1.trans ?_, (h.1 c).2⟩⟩
  obtain ⟨h0, h1, -, h3, h4, h5, h6, h7, h8⟩ := hargs c
  have hh := Cert.Domain.holds_of _ _ _ _ _ _ _ _ _ (hpre c)
  have hn : Cert.KernelIdeal.Hand.noise m g c = Cert.ReferenceIdeal.Hand.noise (launchContents m' c) :=
    Cert.NoiseTwin.noise_same _ _
  rw [Cert.ReferenceIdeal.Hand.opsAll_result]
  refine Eq.trans ?_ (Cert.KernelIdeal.Hand.W8_v20 m g c).symm
  rw [hn, ← values_same _ _ _ _ _ _ _ _ _ hh]
  rw [show launchContents m' c (Proc.devRef .tc Cert.ReferenceIdeal.main_arg0) = _ from h0,
    show launchContents m' c (Proc.devRef .tc Cert.ReferenceIdeal.main_arg1) = _ from h1,
    show launchContents m' c (Proc.devRef .tc Cert.ReferenceIdeal.main_arg3) = _ from h3,
    show launchContents m' c (Proc.devRef .tc Cert.ReferenceIdeal.main_arg4) = _ from h4,
    show launchContents m' c (Proc.devRef .tc Cert.ReferenceIdeal.main_arg5) = _ from h5,
    show launchContents m' c (Proc.devRef .tc Cert.ReferenceIdeal.main_arg6) = _ from h6,
    show launchContents m' c (Proc.devRef .tc Cert.ReferenceIdeal.main_arg7) = _ from h7,
    show launchContents m' c (Proc.devRef .tc Cert.ReferenceIdeal.main_arg8) = _ from h8]

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Algebraic
public import proofs.«01_k».proof.Proof.Gen.Pre_in_order_and_finite
public import Idealize.ShloMosaic.Adequacy
public import Idealize.ShloMosaic.Init

@[expose] public section

noncomputable section

namespace Cert.Proof

open Idealize.ShloMosaic Idealize.SL.Sem Cert.Kernel

/-- The reference's run leaves its arguments and every counter at zero. -/
theorem reference_frame : Cert.quiescent_ReferenceIdeal := fun m ρ _ =>
  θ_run_mono (Cert.ReferenceIdeal.Hand.run_full m ρ) fun _ h => ⟨fun c => (h.1 c).2, h.2⟩

/-- The certificate. -/
theorem claim : Cert.Claim := ⟨Cert.Kernel.Gen.facts, Cert.KernelIdeal.Gen.facts, Cert.ReferenceIdeal.Gen.facts, Cert.Pre_in_order_and_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, Cert.Same.algebraic⟩

end Cert.Proof

end
